-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_spread [hPre_spread : Cert.Pre_spread.Facts] (m : (ℓ : Loc Cert.KernelIdeal.nD Cert.KernelIdeal.τ Cert.KernelIdeal.sig) → Buf (Elt Ideal) ℓ) : Prop :=
  ∀ c : Dev Cert.KernelIdeal.nD,
    (Cert.Pre_spread.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_spread [hPre_spread : Cert.Pre_spread.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_spread.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_spread [hKernelIdeal : Cert.KernelIdeal.Facts] [hPre_spread : Cert.Pre_spread.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_spread m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_spread [hReferenceIdeal : Cert.ReferenceIdeal.Facts] [hPre_spread : Cert.Pre_spread.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_spread m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_spread [hKernelIdeal : Cert.KernelIdeal.Facts] [hReferenceIdeal : Cert.ReferenceIdeal.Facts] [hPre_spread : Cert.Pre_spread.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_spread m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v5_0)) (v1 : (c : Dev Cert.KernelIdeal.nD) → Buf (Elt Ideal) ((c.tc : Thread Cert.KernelIdeal.nD Cert.KernelIdeal.τ).loc Cert.KernelIdeal.main_v5_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5_0) = v0 c
          ∧ r.2.mem ((c.tc : Thread Cert.KernelIdeal.nD Cert.KernelIdeal.τ).loc Cert.KernelIdeal.main_v5_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_indices) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_spread : Cert.Pre_spread.Facts),
    quiescent_Kernel (hKernel := hKernel)
    ∧ quiescent_KernelIdeal (hKernelIdeal := hKernelIdeal)
    ∧ quiescent_KernelIdeal_pre_spread (hKernelIdeal := hKernelIdeal) (hPre_spread := hPre_spread)
    ∧ quiescent_ReferenceIdeal (hReferenceIdeal := hReferenceIdeal)
    ∧ quiescent_ReferenceIdeal_pre_spread (hReferenceIdeal := hReferenceIdeal) (hPre_spread := hPre_spread)
    ∧ preserves_Kernel_KernelIdeal
    ∧ algebraic_KernelIdeal_ReferenceIdeal_pre_spread (hKernelIdeal := hKernelIdeal) (hReferenceIdeal := hReferenceIdeal) (hPre_spread := hPre_spread)
-- ==== Pre_spread.lean ====
abbrev S100000x128 : Shape := ⟨2, ![100000, 128]⟩
abbrev S1024x128 : Shape := ⟨2, ![1024, 128]⟩
abbrev S_ : Shape := ⟨0, ![]⟩
abbrev S1024 : Shape := ⟨1, ![1024]⟩
abbrev S1024x1 : Shape := ⟨2, ![1024, 1]⟩
abbrev S100000 : Shape := ⟨1, ![100000]⟩
abbrev S1x100000 : Shape := ⟨2, ![1, 100000]⟩
abbrev S128x100000 : Shape := ⟨2, ![128, 100000]⟩
abbrev S1024x100000 : Shape := ⟨2, ![1024, 100000]⟩
abbrev S1024x17 : Shape := ⟨2, ![1024, 17]⟩
abbrev S1024x16 : Shape := ⟨2, ![1024, 16]⟩
abbrev S1024x16x1 : Shape := ⟨3, ![1024, 16, 1]⟩
abbrev S1024x1x16 : Shape := ⟨3, ![1024, 1, 16]⟩
abbrev S1024x16x16 : Shape := ⟨3, ![1024, 16, 16]⟩

class Facts : Prop where
  reducesTo_S1024x128_S1024_d1 : S1024x128.ReducesTo [1] S1024
  h_S_ : 0 < S_.numel
  bcast_S1024_S1024x1_0 : S1024.BroadcastsInDim S1024x1 (![0] : Fin 1 → Fin S1024x1.rank)
  reducesTo_S100000x128_S100000_d1 : S100000x128.ReducesTo [1] S100000
  bcast_S100000_S1x100000_1 : S100000.BroadcastsInDim S1x100000 (![1] : Fin 1 → Fin S1x100000.rank)
  transposes_S100000x128_S128x100000_1_0 : S100000x128.Transposes [1, 0] S128x100000
  bcast_S1024x1_S1024x100000_0_1 : S1024x1.BroadcastsInDim S1024x100000 (![0, 1] : Fin 2 → Fin S1024x100000.rank)
  bcast_S1x100000_S1024x100000_0_1 : S1x100000.BroadcastsInDim S1024x100000 (![0, 1] : Fin 2 → Fin S1024x100000.rank)
  bcast_S_S1024x100000 : S_.BroadcastsInDim S1024x100000 (![] : Fin 0 → Fin S1024x100000.rank)
  sliceFits_S1024x100000_S1024x17 : S1024x100000.Slices (fun _ => 0) S1024x17
  slices_S1024x17_S1024x16_0_0 : S1024x17.Slices ![0, 0] S1024x16
  slices_S1024x17_S1024x16_0_1 : S1024x17.Slices ![0, 1] S1024x16
  bcast_S_S1024x16 : S_.BroadcastsInDim S1024x16 (![] : Fin 0 → Fin S1024x16.rank)
  bcast_S1024x16_S1024x16x1_0_1 : S1024x16.BroadcastsInDim S1024x16x1 (![0, 1] : Fin 2 → Fin S1024x16x1.rank)
  bcast_S1024x16_S1024x1x16_0_2 : S1024x16.BroadcastsInDim S1024x1x16 (![0, 2] : Fin 2 → Fin S1024x1x16.rank)
  bcast_S1024x16x1_S1024x16x16_0_1_2 : S1024x16x1.BroadcastsInDim S1024x16x16 (![0, 1, 2] : Fin 3 → Fin S1024x16x16.rank)
  bcast_S1024x1x16_S1024x16x16_0_1_2 : S1024x1x16.BroadcastsInDim S1024x16x16 (![0, 1, 2] : Fin 3 → Fin S1024x16x16.rank)
  natLt_1_32 : 1 < 32
  reducesTo_S1024x16x16_S1024x16_d2 : S1024x16x16.ReducesTo [2] S1024x16
  dot_S1024x128_S128x100000_S1024x100000_1_0_0_1_n_n_wf : DotDims.WF S1024x128 S128x100000 S1024x100000 [1] [0] [0] [1] [] []

variable [Facts]

def dot_S1024x128_S128x100000_S1024x100000_1_0_0_1_n_n : DotDims S1024x128 S128x100000 S1024x100000 where
  lhsContracting := [1]
  rhsContracting := [0]
  lhsNonContracting := [0]
  rhsNonContracting := [1]
  lhsBatch := []
  rhsBatch := []
  wf := dot_S1024x128_S128x100000_S1024x100000_1_0_0_1_n_n_wf
def fn_part1 {F : FTy → Type} [FloatOps F] (main_indices : IVec S1024x17 32) (main_v17 : IVec S1024x16 1) (main_v18 : FVec F S1024x16 .f32) : IVec S1024x16 1 :=
  let main_cst_2 : FVec F S_ .f32 := constant S_ .f32 0xF149F2CA#32
  let main_v19 : FVec F S1024x16 .f32 := broadcastInDim S1024x16 ![] bcast_S_S1024x16 main_cst_2
  let main_v20 : IVec S1024x16 1 := cmpf .ogt main_v18 main_v19
  let main_v21 : IVec S1024x16 32 := (extractStridedSlice S1024x16 ![0, 0] · slices_S1024x17_S1024x16_0_0) main_indices
  let main_c : IVec S_ 32 := constantI S_ 32 256#32
  let main_v22 : IVec S1024x16 32 := broadcastInDim S1024x16 ![] bcast_S_S1024x16 main_c
  let main_v23 : IVec S1024x16 32 := Host.remsi main_v21 main_v22
  let main_v24 : IVec S1024x16x1 32 := broadcastInDim S1024x16x1 ![0, 1] bcast_S1024x16_S1024x16x1_0_1 main_v23
  let main_v25 : IVec S1024x1x16 32 := broadcastInDim S1024x1x16 ![0, 2] bcast_S1024x16_S1024x1x16_0_2 main_v23
  let main_v26 : IVec S1024x16x16 32 := broadcastInDim S1024x16x16 ![0, 1, 2] bcast_S1024x16x1_S1024x16x16_0_1_2 main_v24
  let main_v27 : IVec S1024x16x16 32 := broadcastInDim S1024x16x16 ![0, 1, 2] bcast_S1024x1x16_S1024x16x16_0_1_2 main_v25
  let main_v28 : IVec S1024x16x16 1 := cmpi .eq main_v26 main_v27
  let main_v29 : IVec S1024x16x16 32 := (extui 32 · natLt_1_32) main_v28
  let main_c_3 : IVec S_ 32 := constantI S_ 32 0#32
  let main_v30 : IVec S1024x16 32 := (fun x v => Host.reduce IntOp.addi x v reducesTo_S1024x16x16_S1024x16_d2 h_S_) main_v29 main_c_3
  let main_v31 : IVec S1024x16 1 := andi main_v17 main_v20
  let main_c_4 : IVec S_ 32 := constantI S_ 32 5#32
  let main_v32 : IVec S1024x16 32 := broadcastInDim S1024x16 ![] bcast_S_S1024x16 main_c_4
  let main_v33 : IVec S1024x16 1 := cmpi .sle main_v30 main_v32
  let main_v34 : IVec S1024x16 1 := andi main_v31 main_v33
  main_v34

def fn {F : FTy → Type} [FloatOps F] (main_arg0 : FVec F S100000x128 .f32) (main_arg1 : FVec F S1024x128 .f32) : IVec S1024x16 1 :=
  let main_v0 : FVec F S1024x128 .f32 := mulf main_arg1 main_arg1
  let main_cst : FVec F S_ .f32 := constant S_ .f32 0x00000000#32
  let main_v1 : FVec F S1024 .f32 := (fun x v => Host.reduceAdd x v reducesTo_S1024x128_S1024_d1 h_S_) main_v0 main_cst
  let main_v2 : FVec F S1024x1 .f32 := broadcastInDim S1024x1 ![0] bcast_S1024_S1024x1_0 main_v1
  let main_v3 : FVec F S100000x128 .f32 := mulf main_arg0 main_arg0
  let main_cst_0 : FVec F S_ .f32 := constant S_ .f32 0x00000000#32
  let main_v4 : FVec F S100000 .f32 := (fun x v => Host.reduceAdd x v reducesTo_S100000x128_S100000_d1 h_S_) main_v3 main_cst_0
  let main_v5 : FVec F S1x100000 .f32 := broadcastInDim S1x100000 ![1] bcast_S100000_S1x100000_1 main_v4
  let main_v6 : FVec F S128x100000 .f32 := (transpose S128x100000 [1, 0] · transposes_S100000x128_S128x100000_1_0) main_arg0
  let main_v7 : FVec F S1024x100000 .f32 := (fun l r => Host.dotGeneral dot_S1024x128_S128x100000_S1024x100000_1_0_0_1_n_n none l r) main_arg1 main_v6
  let main_v8 : FVec F S1024x100000 .f32 := broadcastInDim S1024x100000 ![0, 1] bcast_S1024x1_S1024x100000_0_1 main_v2
  let main_v9 : FVec F S1024x100000 .f32 := broadcastInDim S1024x100000 ![0, 1] bcast_S1x100000_S1024x100000_0_1 main_v5
  let main_v10 : FVec F S1024x100000 .f32 := addf main_v8 main_v9
  let main_cst_1 : FVec F S_ .f32 := constant S_ .f32 0x40000000#32
  let main_v11 : FVec F S1024x100000 .f32 := broadcastInDim S1024x100000 ![] bcast_S_S1024x100000 main_cst_1
  let main_v12 : FVec F S1024x100000 .f32 := mulf main_v11 main_v7
  let main_v13 : FVec F S1024x100000 .f32 := subf main_v10 main_v12
  let main_v14 : FVec F S1024x100000 .f32 := Host.negf main_v13
  let main_values : FVec F S1024x17 .f32 := (fun x => (Host.topK S1024x17 1 (FloatOps.cmpfTotal .gt) x sliceFits_S1024x100000_S1024x17).1) main_v14
  let main_indices : IVec S1024x17 32 := (fun x => (Host.topK S1024x17 1 (FloatOps.cmpfTotal .gt) x sliceFits_S1024x100000_S1024x17).2) main_v14
  let main_v15 : FVec F S1024x16 .f32 := (extractStridedSlice S1024x16 ![0, 0] · slices_S1024x17_S1024x16_0_0) main_values
  let main_v16 : FVec F S1024x16 .f32 := (extractStridedSlice S1024x16 ![0, 1] · slices_S1024x17_S1024x16_0_1) main_values
  let main_v17 : IVec S1024x16 1 := cmpf .ogt main_v15 main_v16
  let main_v18 : FVec F S1024x16 .f32 := (extractStridedSlice S1024x16 ![0, 0] · slices_S1024x17_S1024x16_0_0) main_values
  fn_part1 (F := F) main_indices main_v17 main_v18
-- ==== Kernel.lean ====
abbrev S100000x128 : Shape := ⟨2, ![100000, 128]⟩
abbrev S1024x128 : Shape := ⟨2, ![1024, 128]⟩
abbrev S_ : Shape := ⟨0, ![]⟩
abbrev S100000 : Shape := ⟨1, ![100000]⟩
abbrev S100352 : Shape := ⟨1, ![100352]⟩
abbrev S1x100352 : Shape := ⟨2, ![1, 100352]⟩
abbrev S100352x128 : Shape := ⟨2, ![100352, 128]⟩
abbrev S1024x16 : Shape := ⟨2, ![1024, 16]⟩
abbrev S2048x128 : Shape := ⟨2, ![2048, 128]⟩
abbrev S1x2048 : Shape := ⟨2, ![1, 2048]⟩
abbrev S10x1024x128 : Shape := ⟨3, ![10, 1024, 128]⟩
abbrev S1x1024x128 : Shape := ⟨3, ![1, 1024, 128]⟩
abbrev S1024 : Shape := ⟨1, ![1024]⟩
abbrev S1024x1 : Shape := ⟨2, ![1024, 1]⟩
abbrev S1024x2048 : Shape := ⟨2, ![1024, 2048]⟩
abbrev S1x128 : Shape := ⟨2, ![1, 128]⟩

abbrev nBuf : Space → Nat
  | .hbm => 14
  | .vmem => 9
  | .smem => 0
  | _ => 0

abbrev bufTy : (tb : Table) → Fin (tcTables nBuf tb) → BufTy
  | .hbm, ⟨0, _⟩ => ⟨S100000x128, .f32⟩
  | .hbm, ⟨1, _⟩ => ⟨S1024x128, .f32⟩
  | .hbm, ⟨2, _⟩ => ⟨S100000x128, .f32⟩
  | .hbm, ⟨3, _⟩ => ⟨S_, .f32⟩
  | .hbm, ⟨4, _⟩ => ⟨S100000, .f32⟩
  | .hbm, ⟨5, _⟩ => ⟨S_, .f32⟩
  | .hbm, ⟨6, _⟩ => ⟨S_, .f32⟩
  | .hbm, ⟨7, _⟩ => ⟨S100352, .f32⟩
  | .hbm, ⟨8, _⟩ => ⟨S1x100352, .f32⟩
  | .hbm, ⟨9, _⟩ => ⟨S_, .i32⟩
  | .hbm, ⟨10, _⟩ => ⟨S_, .f32⟩
  | .hbm, ⟨11, _⟩ => ⟨S100352x128, .f32⟩
  | .hbm, ⟨12, _⟩ => ⟨S1024x16, .f32⟩
  | .hbm, ⟨13, _⟩ => ⟨S1024x16, .i32⟩
  | .local _ .vmem, ⟨0, _⟩ => ⟨S1024x128, .f32⟩
  | .local _ .vmem, ⟨1, _⟩ => ⟨S2048x128, .f32⟩
  | .local _ .vmem, ⟨2, _⟩ => ⟨S2048x128, .f32⟩
  | .local _ .vmem, ⟨3, _⟩ => ⟨S1x2048, .f32⟩
  | .local _ .vmem, ⟨4, _⟩ => ⟨S1x2048, .f32⟩
  | .local _ .vmem, ⟨5, _⟩ => ⟨S1024x16, .f32⟩
  | .local _ .vmem, ⟨6, _⟩ => ⟨S1024x16, .i32⟩
  | .local _ .vmem, ⟨7, _⟩ => ⟨S10x1024x128, .f32⟩
  | .local _ .vmem, ⟨8, _⟩ => ⟨S10x1024x128, .i32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_cst_0 : Ref sig .tc := ⟨.hbm, 5, rfl⟩
abbrev main_call0_v0 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_call1_v0 : Ref sig .tc := ⟨.hbm, 10, rfl⟩
abbrev main_v4 : Ref sig .tc := ⟨.hbm, 11, rfl⟩
abbrev main_v5_0 : Ref sig .tc := ⟨.hbm, 12, rfl⟩
abbrev main_v5_1 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_scratch0 : Ref sig .tc := ⟨.vmem, 7, rfl⟩
abbrev cc0_scratch1 : Ref sig .tc := ⟨.vmem, 8, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6

abbrev nD : Nat := 1
abbrev τ : Topo := Topo.v7x

variable {F : FTy → Type} [FloatOps F]

abbrev grid0 : Pipeline.Grid := ⟨1, ![49], ![false]⟩

def k0_cond2 (i : grid0.Coords) : BitVec 1 :=
  let arg0 : BitVec 32 := BitVec.ofNat 32 (i 0).val
  let c48_i32 : BitVec 32 := 48#32
  let v672 : BitVec 1 := Scalar.cmpi .eq arg0 c48_i32
  let v673 : BitVec 32 := Scalar.extui v672
  let c0_i32_150 : BitVec 32 := 0#32
  let v674 : BitVec 1 := Scalar.cmpi .ne v673 c0_i32_150
  v674

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1024x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x16 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== ReferenceIdeal.lean ====
abbrev S100000x128 : Shape := ⟨2, ![100000, 128]⟩
abbrev S1024x128 : Shape := ⟨2, ![1024, 128]⟩
abbrev S_ : Shape := ⟨0, ![]⟩
abbrev S1024 : Shape := ⟨1, ![1024]⟩
abbrev S1024x1 : Shape := ⟨2, ![1024, 1]⟩
abbrev S100000 : Shape := ⟨1, ![100000]⟩
abbrev S1x100000 : Shape := ⟨2, ![1, 100000]⟩
abbrev S128x100000 : Shape := ⟨2, ![128, 100000]⟩
abbrev S1024x100000 : Shape := ⟨2, ![1024, 100000]⟩
abbrev S1024x16 : Shape := ⟨2, ![1024, 16]⟩

abbrev nBuf : Space → Nat
  | .hbm => 23
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S1024x128, .f32⟩
  | .hbm, ⟨2, _⟩ => ⟨S1024x128, .f32⟩
  | .hbm, ⟨3, _⟩ => ⟨S_, .f32⟩
  | .hbm, ⟨4, _⟩ => ⟨S1024, .f32⟩
  | .hbm, ⟨5, _⟩ => ⟨S1024x1, .f32⟩
  | .hbm, ⟨6, _⟩ => ⟨S100000x128, .f32⟩
  | .hbm, ⟨7, _⟩ => ⟨S_, .f32⟩
  | .hbm, ⟨8, _⟩ => ⟨S100000, .f32⟩
  | .hbm, ⟨9, _⟩ => ⟨S1x100000, .f32⟩
  | .hbm, ⟨10, _⟩ => ⟨S128x100000, .f32⟩
  | .hbm, ⟨11, _⟩ => ⟨S1024x100000, .f32⟩
  | .hbm, ⟨12, _⟩ => ⟨S1024x100000, .f32⟩
  | .hbm, ⟨13, _⟩ => ⟨S1024x100000, .f32⟩
  | .hbm, ⟨14, _⟩ => ⟨S1024x100000, .f32⟩
  | .hbm, ⟨15, _⟩ => ⟨S_, .f32⟩
  | .hbm, ⟨16, _⟩ => ⟨S1024x100000, .f32⟩
  | .hbm, ⟨17, _⟩ => ⟨S1024x100000, .f32⟩
  | .hbm, ⟨18, _⟩ => ⟨S1024x100000, .f32⟩
  | .hbm, ⟨19, _⟩ => ⟨S1024x100000, .f32⟩
  | .hbm, ⟨20, _⟩ => ⟨S1024x16, .f32⟩
  | .hbm, ⟨21, _⟩ => ⟨S1024x16, .i32⟩
  | .hbm, ⟨22, _⟩ => ⟨S1024x16, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_values : Ref sig .tc := ⟨.hbm, 20, rfl⟩
abbrev main_indices : Ref sig .tc := ⟨.hbm, 21, rfl⟩
abbrev main_v15 : Ref sig .tc := ⟨.hbm, 22, rfl⟩

abbrev nD : Nat := 1
abbrev τ : Topo := Topo.v7x

variable {F : FTy → Type} [FloatOps F]
-- ==== Proof.Slots.lean ====
/- Five slots that keep the smallest of the values they are shown, as a fact about lists and multisets:
   what insertion does, and which values are certain to be kept. -/
module

public import Mathlib.Data.EReal.Basic
public import Mathlib.Data.Finset.Card
public import Mathlib.Data.Multiset.Count

@[expose] public section

namespace Cert.Knn

/-- One slot: a value and an index. -/
abbrev Cell : Type := EReal × BitVec 32

/-- Insert a value with its index: at each slot the smaller of the two stays (the slot on equality), the other goes on. -/
noncomputable def ins : List Cell → EReal → BitVec 32 → List Cell
  | [], _, _ => []
  | p :: r, x, i => if x < p.1 then (x, i) :: ins r p.1 p.2 else p :: ins r x i

/-- Slots in increasing order. -/
def Sorted (s : List Cell) : Prop := s.Pairwise fun p q => p.1 ≤ q.1

/-- Insertion keeps the number of slots. -/
theorem ins_length (s : List Cell) : ∀ (x : EReal) (i : BitVec 32), (ins s x i).length = s.length := by
  induction s with
  | nil => intros; rfl
  | cons p r ih => intro x i; unfold ins; split <;> simp [ih]

/-- Every slot after an insertion is at most some slot before it. -/
theorem ins_le (s : List Cell) : ∀ (x : EReal) (i : BitVec 32) (q : Cell), q ∈ ins s x i → ∃ q' ∈ s, q.1 ≤ q'.1 := by
  induction s with
  | nil => intro x i q h; simp [ins] at h
  | cons p r ih =>
    intro x i q h
    unfold ins at h
    split at h
    · rcases List.mem_cons.mp h with rfl | h
      · exact ⟨p, List.mem_cons_self, le_of_lt (by assumption)⟩
      · obtain ⟨q', hq', hle⟩ := ih _ _ _ h
        exact ⟨q', List.mem_cons_of_mem _ hq', hle⟩
    · rcases List.mem_cons.mp h with rfl | h
      · exact ⟨q, List.mem_cons_self, le_rfl⟩
      · obtain ⟨q', hq', hle⟩ := ih _ _ _ h
        exact ⟨q', List.mem_cons_of_mem _ hq', hle⟩

/-- Insertion into ordered slots: one entry falls out, it is at least every slot that stays, and the slots stay ordered. -/
theorem ins_out (s : List Cell) : ∀ (x : EReal) (i : BitVec 32), Sorted s →
    ∃ o : Cell, ((x, i) :: s).Perm (o :: ins s x i) ∧ (∀ q ∈ ins s x i, q.1 ≤ o.1) ∧ Sorted (ins s x i) := by
  induction s with
  | nil => intro x i _; exact ⟨(x, i), .refl _, by simp [ins], by simp [ins, Sorted]⟩
  | cons p r ih =>
    intro x i hs
    obtain ⟨hp, hr⟩ := List.pairwise_cons.mp hs
    unfold ins
    split
    · next hlt =>
      obtain ⟨o, ho, hle, hso⟩ := ih p.1 p.2 hr
      have hge : ∀ q ∈ o :: ins r p.1 p.2, p.1 ≤ q.1 := fun q hq => by
        rcases List.mem_cons.mp (ho.mem_iff.mpr hq) with rfl | h
        · exact le_rfl
        · exact hp q h
      refine ⟨o, ?_, ?_, ?_⟩
      · exact ((List.Perm.cons (x, i) ho).trans (List.Perm.swap _ _ _))
      · intro q hq
        rcases List.mem_cons.mp hq with rfl | h
        · exact le_trans hlt.le (hge o List.mem_cons_self)
        · exact hle q h
      · exact List.pairwise_cons.mpr ⟨fun q hq => le_trans hlt.le (hge q (List.mem_cons_of_mem _ hq)), hso⟩
    · next hnlt =>
      have hxp : p.1 ≤ x := not_lt.mp hnlt
      obtain ⟨o, ho, hle, hso⟩ := ih x i hr
      have hge : ∀ q ∈ o :: ins r x i, p.1 ≤ q.1 := fun q hq => by
        rcases List.mem_cons.mp (ho.mem_iff.mpr hq) with rfl | h
        · exact hxp
        · exact hp q h
      refine ⟨o, ?_, ?_, ?_⟩
      · exact (List.Perm.swap _ _ _).trans ((List.Perm.cons p ho).trans (List.Perm.swap _ _ _))
      · intro q hq
        rcases List.mem_cons.mp hq with rfl | h
        · exact hge o List.mem_cons_self
        · exact hle q h
      · exact List.pairwise_cons.mpr ⟨fun q hq => hge q (List.mem_cons_of_mem _ hq), hso⟩

/-- The entry of point `n`: its value and its number. -/
def entry (x : ℕ → EReal) (n : ℕ) : Cell := (x n, BitVec.ofNat 32 n)

/-- What five slots hold once the points of `E` have been shown to them: together with the entries dropped so far they
    are the five unused slots and the points' entries, and nothing dropped is smaller than a slot. -/
structure Kept (big : EReal) (x : ℕ → EReal) (s : List Cell) (E : Finset ℕ) : Prop where
  /-- there are five slots -/
  length : s.length = 5
  /-- they are in order -/
  sorted : Sorted s
  /-- the entries seen are the slots and the entries dropped -/
  split : ∃ D : Multiset Cell, Multiset.replicate 5 (big, 0#32) + E.val.map (entry x) = (s : Multiset Cell) + D
    ∧ ∀ q ∈ s, ∀ p ∈ D, q.1 ≤ p.1

/-- Five unused slots have been shown nothing. -/
theorem kept_start (big : EReal) (x : ℕ → EReal) : Kept big x (List.replicate 5 (big, 0#32)) ∅ := by
  refine ⟨by simp, ?_, 0, ?_, by simp⟩
  · exact List.pairwise_replicate.mpr (Or.inr le_rfl)
  · rw [Finset.empty_val, Multiset.map_zero, Multiset.coe_replicate]

/-- Showing one more point. -/
theorem kept_ins {big : EReal} {x : ℕ → EReal} {s : List Cell} {E : Finset ℕ} (h : Kept big x s E) (n : ℕ) (hn : n ∉ E) :
    Kept big x (ins s (x n) (BitVec.ofNat 32 n)) (insert n E) := by
  obtain ⟨D, hD, hle⟩ := h.split
  obtain ⟨o, ho, hole, hso⟩ := ins_out s (x n) (BitVec.ofNat 32 n) h.sorted
  refine ⟨(ins_length _ _ _).trans h.length, hso, o ::ₘ D, ?_, ?_⟩
  · rw [Finset.insert_val_of_notMem hn, Multiset.map_cons, Multiset.add_cons, hD, Multiset.add_cons, ← Multiset.cons_add,
      ← Multiset.cons_add, Multiset.cons_coe, Multiset.cons_coe]
    exact congrArg (· + D) (Multiset.coe_eq_coe.mpr ho)
  · intro q hq p hp
    rcases Multiset.mem_cons.mp hp with rfl | hp
    · exact hole q hq
    · obtain ⟨q', hq', hqq⟩ := ins_le s _ _ q hq
      exact le_trans hqq (hle q' hq' p hp)

/-- A point below the large value with at most five seen points no farther than it is in a slot. -/
theorem kept_mem {big : EReal} {x : ℕ → EReal} {s : List Cell} {E : Finset ℕ} (h : Kept big x s E) (n : ℕ) (hn : n ∈ E)
    (hb : x n < big) (hc : (E.filter fun k => x k ≤ x n).card ≤ 5) : entry x n ∈ s := by
  classical
  obtain ⟨D, hD, hle⟩ := h.split
  have hm : entry x n ∈ (s : Multiset Cell) + D := by
    rw [← hD]
    exact Multiset.mem_add.mpr (Or.inr (Multiset.mem_map_of_mem _ hn))
  rcases Multiset.mem_add.mp hm with hs | hd
  · exact hs
  · exfalso
    have hcount := congrArg (Multiset.countP fun p : Cell => p.1 ≤ x n) hD
    rw [Multiset.countP_add, Multiset.countP_add, Multiset.countP_map] at hcount
    have h0 : Multiset.countP (fun p : Cell => p.1 ≤ x n) (Multiset.replicate 5 (big, 0#32)) = 0 :=
      Multiset.countP_eq_zero.mpr fun p hp => by
        rw [Multiset.eq_of_mem_replicate hp]; exact not_le.mpr hb
    have h1 : Multiset.card (Multiset.filter (fun k => (entry x k).1 ≤ x n) E.val) ≤ 5 := hc
    have h2 : Multiset.countP (fun p : Cell => p.1 ≤ x n) (s : Multiset Cell) = 5 := by
      exact (Multiset.countP_eq_card.mpr fun q hq => hle q hq _ hd).trans ((Multiset.coe_card s).trans h.length)
    have h3 : 0 < Multiset.countP (fun p : Cell => p.1 ≤ x n) D :=
      Multiset.countP_pos.mpr ⟨_, hd, le_rfl⟩
    omega

/-- A slot is unused or holds the entry of a point shown. -/
theorem kept_of_mem {big : EReal} {x : ℕ → EReal} {s : List Cell} {E : Finset ℕ} (h : Kept big x s E) (p : Cell) (hp : p ∈ s) :
    p = (big, 0#32) ∨ ∃ n ∈ E, p = entry x n := by
  obtain ⟨D, hD, -⟩ := h.split
  have hm : p ∈ Multiset.replicate 5 (big, 0#32) + E.val.map (entry x) := by
    rw [hD]; exact Multiset.mem_add.mpr (Or.inl hp)
  rcases Multiset.mem_add.mp hm with h | h
  · exact Or.inl (Multiset.eq_of_mem_replicate h)
  · obtain ⟨n, hn, rfl⟩ := Multiset.mem_map.mp h
    exact Or.inr ⟨n, hn, rfl⟩

/-- Insert the entries of a list of points, in order. -/
noncomputable def sweep (x : ℕ → EReal) : List ℕ → List Cell → List Cell
  | [], s => s
  | n :: ns, s => sweep x ns (ins s (x n) (BitVec.ofNat 32 n))

/-- Showing a list of new, different points. -/
theorem kept_sweep {big : EReal} {x : ℕ → EReal} : ∀ (ns : List ℕ) {s : List Cell} {E : Finset ℕ}, Kept big x s E →
    ns.Nodup → (∀ n ∈ ns, n ∉ E) → Kept big x (sweep x ns s) (E ∪ ns.toFinset)
  | [], s, E, h, _, _ => by simpa [sweep] using h
  | n :: ns, s, E, h, hnd, hne => by
    obtain ⟨hn, hnd'⟩ := List.nodup_cons.mp hnd
    have := kept_sweep ns (kept_ins h n (hne n List.mem_cons_self)) hnd' fun k hk hkE => by
      rcases Finset.mem_insert.mp hkE with rfl | hkE
      · exact hn hk
      · exact hne k (List.mem_cons_of_mem _ hk) hkE
    have he : E ∪ (n :: ns).toFinset = insert n E ∪ ns.toFinset := by
      ext k; simp only [Finset.mem_union, List.mem_toFinset, List.mem_cons, Finset.mem_insert]; tauto
    rw [he]
    exact this

end Cert.Knn
-- ==== Proof.Model.lean ====
/- The kernel's arithmetic on whole arrays, written once: what inserting one slice of
   128 points does to five slots, what the sixteen slices of a block do, and what one
   selection round does to the ten slots. -/
module

public import proofs.«01_k».proof.Proof.Gen.KernelIdeal.Frame

@[expose] public section

set_option maxRecDepth 16384

noncomputable section

namespace Cert.KernelIdeal.Knn

open Idealize.ShloMosaic Idealize.ShloMosaic.TcCoe Idealize.ShloMosaic.Tactic
open Cert.KernelIdeal Cert.KernelIdeal.Gen

variable {F : FTy → Type} [FloatOps F]

/-- One slot on every row and lane: a value and an index. -/
abbrev Slot (F : FTy → Type) : Type := FVec F S1024x128 .f32 × IVec S1024x128 32

/-- Insert a value with its index into a list of slots: at each slot the smaller of the two stays
    (the slot itself on equality) and the other one is carried on. -/
def insV : List (Slot F) → FVec F S1024x128 .f32 → IVec S1024x128 32 → List (Slot F)
  | [], _, _ => []
  | p :: r, x, i =>
      (select (cmpf .olt x p.1) x p.1, select (cmpf .olt x p.1) i p.2)
        :: insV r (select (cmpf .olt x p.1) p.1 x) (select (cmpf .olt x p.1) p.2 i)

/-- Insert the slices of a list one after the other. -/
def sweepV (X : Fin 16 → FVec F S1024x128 .f32) (I : Fin 16 → IVec S1024x128 32) :
    List (Fin 16) → List (Slot F) → List (Slot F)
  | [], s => s
  | c :: cs, s => sweepV X I cs (insV s (X c) (I c))

/-- The even slices of a block, in order. -/
def evens : List (Fin 16) := [0, 2, 4, 6, 8, 10, 12, 14]

/-- The odd slices of a block, in order. -/
def odds : List (Fin 16) := [1, 3, 5, 7, 9, 11, 13, 15]

/-- A slice of 128 columns lies within the 2048 columns of a block. -/
theorem slices_at (c : Fin 16) : S1024x2048.Slices ![0, 128 * c.val] S1024x128 := by
  have := c.isLt
  refine ⟨rfl, fun d => ?_⟩
  match d with
  | ⟨0, _⟩ => show 0 + 1024 ≤ 1024; omega
  | ⟨1, _⟩ => show 128 * c.val + 128 ≤ 2048; omega

/-- A slice of 128 columns lies within a block's row of 2048. -/
theorem inb_at (c : Fin 16) (a : Fin 2) : (![0, 128 * c.val] : Fin 2 → Nat) a + S1x128.size a ≤ S1x2048.size a := by
  have := c.isLt
  match a with
  | ⟨0, _⟩ => show 0 + 1 ≤ 1; omega
  | ⟨1, _⟩ => show 128 * c.val + 128 ≤ 2048; omega

/-- Slot `k` lies within the ten slots. -/
theorem inb_slot (k : Fin 10) (a : Fin 3) :
    (![k.val, 0, 0] : Fin 3 → Nat) a + S1x1024x128.size a ≤ S10x1024x128.size a := by
  have := k.isLt
  match a with
  | ⟨0, _⟩ => show k.val + 1 ≤ 10; omega
  | ⟨1, _⟩ => show 0 + 1024 ≤ 1024; omega
  | ⟨2, _⟩ => show 0 + 128 ≤ 128; omega

/-- The squared length of each query. -/
def qsqV (q : FVec F S1024x128 .f32) : FVec F S1024x1 .f32 := k0_pay517 q

/-- The products of the queries with the points of a block. -/
def crossV (q : FVec F S1024x128 .f32) (p : FVec F S2048x128 .f32) : FVec F S1024x2048 .f32 := k0_pay518 q p

/-- The distances of slice `c` of a block. -/
def distV (q2 : FVec F S1024x1 .f32) (cr : FVec F S1024x2048 .f32) (w : Fin 16 → FVec F S1x128 .f32) (c : Fin 16) :
    FVec F S1024x128 .f32 :=
  subf (addf (broadcastTo S1024x128 q2 broadcasts_S1024x1_S1024x128)
      (broadcastTo S1024x128 (shapeCast S1x128 (w c) shapeCasts_S1x128_S1x128) broadcasts_S1x128_S1024x128))
    (mulf (broadcast S1024x128 (Scalar.ofBits .f32 0x40000000#32))
      (extractStridedSlice S1024x128 ![0, 128 * c.val] cr (slices_at c)))

/-- The indices of slice `c` of the block at grid point `n`. -/
def idxV (n : BitVec 32) (c : Fin 16) : IVec S1024x128 32 :=
  addi (iota .tc S1024x128 32 [1] iota_S1024x128_d1_w32)
    (broadcast S1024x128 (Scalar.addi (Scalar.muli n 2048#32) (BitVec.ofNat 32 (128 * c.val))))

/-- The ten slots, taken out of the two scratch arrays as loaded. -/
def slotsV (L : Fin 10 → Vec F S1x1024x128 .f32) (M : Fin 10 → Vec F S1x1024x128 .i32) : List (Slot F) :=
  (List.finRange 10).map fun k => (shapeCast S1024x128 (L k) shapeCasts_S1x1024x128_S1024x128,
    shapeCast S1024x128 (M k) shapeCasts_S1x1024x128_S1024x128)

/-- A block's effect on the ten slots: the even slices go into the first five, the odd ones into the last five. -/
def blockV (n : BitVec 32) (q : FVec F S1024x128 .f32) (p : FVec F S2048x128 .f32)
    (w : Fin 16 → Vec F S1x128 .f32) (l : List (Slot F)) : List (Slot F) :=
  sweepV (distV (qsqV q) (crossV q p) w) (idxV n) evens (l.take 5)
    ++ sweepV (distV (qsqV q) (crossV q p) w) (idxV n) odds (l.drop 5)

/-- An unused slot: the large value and index zero. -/
def freeV : Slot F := (broadcast S1024x128 (Scalar.ofBits .f32 0x7149F2CA#32), broadcast S1024x128 0#32)

/-- Keep the slot with the smaller value, the earlier one on equality. -/
def scanV : List (Slot F) → Slot F → Slot F
  | [], b => b
  | p :: r, b => scanV r (select (cmpf .olt p.1 b.1) p.1 b.1, select (cmpf .olt p.1 b.1) p.2 b.2)

/-- The first slot with the least value, per row and lane. -/
def bestV : List (Slot F) → Slot F
  | [] => freeV
  | p :: r => scanV r p

/-- The least value of a row over all lanes. -/
def leastV (l : List (Slot F)) : FVec F S1024x1 .f32 :=
  shapeCast S1024x1 (multiReduction .minimumf [1] S1024 (bestV l).1 0x7F800000#32 reduces_S1024x128_S1024 (.inl rfl) rfl)
    shapeCasts_S1024_S1024x1

/-- The least index of a row among the lanes that hold the row's least value. -/
def pickV (l : List (Slot F)) : IVec S1024x1 32 :=
  shapeCast S1024x1 (multiReductionI .minsi [1] S1024
      (select (cmpf .oeq (bestV l).1 (broadcastTo S1024x128 (leastV l) broadcasts_S1024x1_S1024x128)) (bestV l).2
        (broadcast S1024x128 2147483647#32)) 2147483647#32 reduces_S1024x128_S1024 rfl)
    shapeCasts_S1024_S1024x1

/-- One selection round: every slot that holds the picked index gets the large value. -/
def roundV (l : List (Slot F)) : List (Slot F) :=
  l.map fun p => (select (cmpi .eq p.2 (broadcastTo S1024x128 (pickV l) broadcasts_S1024x1_S1024x128))
    (broadcast S1024x128 (Scalar.ofBits .f32 0x7149F2CA#32)) p.1, p.2)

/-- The slots after `n` selection rounds. -/
def roundsV (l : List (Slot F)) : Nat → List (Slot F)
  | 0 => l
  | n + 1 => roundV (roundsV l n)

/-- The distances selected in sixteen rounds, one column per round. -/
def outDistV (l : List (Slot F)) : FVec F S1024x16 .f32 :=
  concatenate S1024x16 1 (List.ofFn fun n : Fin 16 => ⟨S1024x1, leastV (roundsV l n.val)⟩)
    concatenates_S1024x1_S1024x1_S1024x1_S1024x1_S1024x1_S1024x1_S1024x1_S1024x1_S1024x1_S1024x1_S1024x1_S1024x1_S1024x1_S1024x1_S1024x1_S1024x1_S1024x16_d1

/-- The indices selected in sixteen rounds, one column per round. -/
def outIdxV (l : List (Slot F)) : IVec S1024x16 32 :=
  concatenate S1024x16 1 (List.ofFn fun n : Fin 16 => ⟨S1024x1, pickV (roundsV l n.val)⟩)
    concatenates_S1024x1_S1024x1_S1024x1_S1024x1_S1024x1_S1024x1_S1024x1_S1024x1_S1024x1_S1024x1_S1024x1_S1024x1_S1024x1_S1024x1_S1024x1_S1024x1_S1024x16_d1

/-- The pieces that store the values of a list of slots, the last slot's first. -/
def valPieces (l : List (Slot F)) : List (View.Piece (Elt F) S10x1024x128 .f32) :=
  (List.zipWith (fun (p : Slot F) (k : Fin 10) => (⟨Rect.unit ![k.val, 0, 0] ![1, 1024, 128] (inb_slot k),
      shapeCast S1x1024x128 p.1 shapeCasts_S1024x128_S1x1024x128⟩ : View.Piece (Elt F) S10x1024x128 .f32)) l (List.finRange 10)).reverse

/-- The pieces that store the indices of a list of slots, the last slot's first. -/
def idxPieces (l : List (Slot F)) : List (View.Piece (Elt F) S10x1024x128 .i32) :=
  (List.zipWith (fun (p : Slot F) (k : Fin 10) => (⟨Rect.unit ![k.val, 0, 0] ![1, 1024, 128] (inb_slot k),
      shapeCast S1x1024x128 p.2 shapeCasts_S1024x128_S1x1024x128⟩ : View.Piece (Elt F) S10x1024x128 .i32)) l (List.finRange 10)).reverse

section Pieces

variable (c : Dev nD) (i : grid0.Coords) (arg1 : Memref sig .tc .vmem S1024x128 .f32) (harg1 : arg1.IsWhole)
  (arg2 : Memref sig .tc .vmem S2048x128 .f32) (harg2 : arg2.IsWhole) (arg3 : Memref sig .tc .vmem S1x2048 .f32) (harg3 : arg3.IsWhole)
  (arg4 : Memref sig .tc .vmem S1024x16 .f32) (harg4 : arg4.IsWhole) (arg5 : Memref sig .tc .vmem S1024x16 .i32) (harg5 : arg5.IsWhole)
  (arg6 : Memref sig .tc .vmem S10x1024x128 .f32) (harg6 : arg6.IsWhole) (arg7 : Memref sig .tc .vmem S10x1024x128 .i32) (harg7 : arg7.IsWhole)
  (x0 : Vec F S1024x128 .f32) (x1 : Vec F S2048x128 .f32) (x2 : Vec F S1x2048 .f32)
  (xs0 : Vec F S10x1024x128 .f32) (xs1 : Vec F S10x1024x128 .i32)

/-- The queries as the body loads them. -/
def loadQ : Vec F S1024x128 .f32 :=
  View.readAt (Elt F) arg1.view (Rect.unit (s := S1024x128) ![0, 0] S1024x128.size inb_S1024x128_S1024x128_0_0).toLoadRect (harg1.unread x0)

/-- The block of points as the body loads it. -/
def loadP : Vec F S2048x128 .f32 :=
  View.readAt (Elt F) arg2.view (Rect.unit (s := S2048x128) ![0, 0] S2048x128.size inb_S2048x128_S2048x128_0_0).toLoadRect (harg2.unread x1)

/-- The squared lengths of slice `k` as the body loads them. -/
def loadW (k : Fin 16) : Vec F S1x128 .f32 :=
  View.readAt (Elt F) arg3.view (Rect.unit (s := S1x2048) ![0, 128 * k.val] S1x128.size (inb_at k)).toLoadRect (harg3.unread x2)

/-- The values of slot `k` as the body loads them. -/
def loadV (k : Fin 10) : Vec F S1x1024x128 .f32 :=
  View.readAt (Elt F) arg6.view (Rect.unit (s := S10x1024x128) ![k.val, 0, 0] S1x1024x128.size (inb_slot k)).toLoadRect (harg6.unread xs0)

/-- The indices of slot `k` as the body loads them. -/
def loadI (k : Fin 10) : Vec F S1x1024x128 .i32 :=
  View.readAt (Elt F) arg7.view (Rect.unit (s := S10x1024x128) ![k.val, 0, 0] S1x1024x128.size (inb_slot k)).toLoadRect (harg7.unread xs1)

/-- The ten slots at the end of a block that starts from the slots `l`. -/
def doneV (l : List (Slot F)) : List (Slot F) :=
  blockV (BitVec.ofNat 32 (i 0).val) (loadQ arg1 harg1 x0) (loadP arg2 harg2 x1) (loadW arg3 harg3 x2) l

/-- The ten slots in which the first block starts: stored unused and loaded back. -/
def startV : List (Slot F) :=
  slotsV (fun k => arg6.view.readCov (valPieces (List.replicate 10 freeV))
      (Rect.unit (s := S10x1024x128) ![k.val, 0, 0] S1x1024x128.size (inb_slot k)).toLoadRect)
    (fun k => arg7.view.readCov (idxPieces (List.replicate 10 freeV))
      (Rect.unit (s := S10x1024x128) ![k.val, 0, 0] S1x1024x128.size (inb_slot k)).toLoadRect)

/-- The ten slots as a later block loads them. -/
def heldV : List (Slot F) := slotsV (loadV arg6 harg6 xs0) (loadI arg7 harg7 xs1)

/-- In a middle block the values left are the block's effect on the slots held. -/
theorem vals_B (hc0 : ¬cond0_0 i) (hc1 : ¬cond0_1 i) :
    (kernelRun0_B c i arg1 harg1 arg2 harg2 arg3 harg3 arg4 harg4 arg5 harg5 arg6 harg6 arg7 harg7 hc0 hc1 x0 x1 x2 xs0 xs1).2.2.1
      = valPieces (doneV i arg1 harg1 arg2 harg2 arg3 harg3 x0 x1 x2 (heldV arg6 harg6 arg7 harg7 xs0 xs1)) := by
  sl_kernel_rfl

/-- In a middle block the indices left are the block's effect on the slots held. -/
theorem idxs_B (hc0 : ¬cond0_0 i) (hc1 : ¬cond0_1 i) :
    (kernelRun0_B c i arg1 harg1 arg2 harg2 arg3 harg3 arg4 harg4 arg5 harg5 arg6 harg6 arg7 harg7 hc0 hc1 x0 x1 x2 xs0 xs1).2.2.2.1
      = idxPieces (doneV i arg1 harg1 arg2 harg2 arg3 harg3 x0 x1 x2 (heldV arg6 harg6 arg7 harg7 xs0 xs1)) := by
  sl_kernel_rfl

/-- In the first block the values left are the block's effect on unused slots. -/
theorem vals_A (hc0 : cond0_0 i) (hc1 : ¬cond0_1 i) :
    (kernelRun0_A c i arg1 harg1 arg2 harg2 arg3 harg3 arg4 harg4 arg5 harg5 arg6 harg6 arg7 harg7 hc0 hc1 x0 x1 x2).2.2.1
      = valPieces (doneV i arg1 harg1 arg2 harg2 arg3 harg3 x0 x1 x2 (startV arg6 arg7)) ++ valPieces (List.replicate 10 freeV) := by
  sl_kernel_rfl

/-- In the first block the indices left are the block's effect on unused slots. -/
theorem idxs_A (hc0 : cond0_0 i) (hc1 : ¬cond0_1 i) :
    (kernelRun0_A c i arg1 harg1 arg2 harg2 arg3 harg3 arg4 harg4 arg5 harg5 arg6 harg6 arg7 harg7 hc0 hc1 x0 x1 x2).2.2.2.1
      = idxPieces (doneV i arg1 harg1 arg2 harg2 arg3 harg3 x0 x1 x2 (startV arg6 arg7)) ++ idxPieces (List.replicate 10 freeV) := by
  sl_kernel_rfl

/-- The last block stores the sixteen distances selected from the slots it ends with. -/
theorem dist_C (hc0 : ¬cond0_0 i) (hc1 : cond0_1 i) :
    (kernelRun0_C c i arg1 harg1 arg2 harg2 arg3 harg3 arg4 harg4 arg5 harg5 arg6 harg6 arg7 harg7 hc0 hc1 x0 x1 x2 xs0 xs1).1
      = [⟨Rect.unit ![0, 0] ![1024, 16] inb_S1024x16_S1024x16_0_0,
          outDistV (doneV i arg1 harg1 arg2 harg2 arg3 harg3 x0 x1 x2 (heldV arg6 harg6 arg7 harg7 xs0 xs1))⟩] := by
  sl_kernel_rfl

/-- The last block stores the sixteen indices selected from the slots it ends with. -/
theorem idx_C (hc0 : ¬cond0_0 i) (hc1 : cond0_1 i) :
    (kernelRun0_C c i arg1 harg1 arg2 harg2 arg3 harg3 arg4 harg4 arg5 harg5 arg6 harg6 arg7 harg7 hc0 hc1 x0 x1 x2 xs0 xs1).2.1
      = [⟨Rect.unit ![0, 0] ![1024, 16] inb_S1024x16_S1024x16_0_0,
          outIdxV (doneV i arg1 harg1 arg2 harg2 arg3 harg3 x0 x1 x2 (heldV arg6 harg6 arg7 harg7 xs0 xs1))⟩] := by
  sl_kernel_rfl

end Pieces

end Cert.KernelIdeal.Knn
-- ==== Proof.Select.lean ====
/- Selecting the sixteen smallest entries of a row, one per round, out of slots spread over lanes. -/
module

public import proofs.«01_k».proof.Proof.Slots

@[expose] public section

namespace Cert.Knn

/-- Walk a list of slots, keeping the one with the smaller value (the earlier one on equality). -/
noncomputable def scan : List Cell → Cell → Cell
  | [], b => b
  | p :: r, b => scan r (if p.1 < b.1 then p else b)

/-- The scan returns one of the slots it saw, with a value no larger than any of them. -/
theorem scan_spec (l : List Cell) : ∀ b : Cell, (scan l b = b ∨ scan l b ∈ l) ∧ (scan l b).1 ≤ b.1 ∧ ∀ p ∈ l, (scan l b).1 ≤ p.1 := by
  induction l with
  | nil => intro b; exact ⟨Or.inl rfl, le_rfl, by simp⟩
  | cons p r ih =>
    intro b
    unfold scan
    obtain ⟨hm, hb, hr⟩ := ih (if p.1 < b.1 then p else b)
    by_cases h : p.1 < b.1
    · rw [if_pos h] at hm hb hr ⊢
      refine ⟨Or.inr ?_, le_trans hb h.le, fun q hq => ?_⟩
      · rcases hm with hm | hm
        · rw [hm]; exact List.mem_cons_self
        · exact List.mem_cons_of_mem _ hm
      · rcases List.mem_cons.mp hq with rfl | hq
        · exact hb
        · exact hr q hq
    · rw [if_neg h] at hm hb hr ⊢
      refine ⟨hm.imp id (List.mem_cons_of_mem _), hb, fun q hq => ?_⟩
      rcases List.mem_cons.mp hq with rfl | hq
      · exact le_trans hb (not_lt.mp h)
      · exact hr q hq

/-- The best slot of a list. -/
noncomputable def best (big : EReal) : List Cell → Cell
  | [] => (big, 0#32)
  | p :: r => scan r p

/-- The best slot of a nonempty list is in it and has the least value. -/
theorem best_spec (big : EReal) (l : List Cell) (hl : l ≠ []) : best big l ∈ l ∧ ∀ p ∈ l, (best big l).1 ≤ p.1 := by
  cases l with
  | nil => exact absurd rfl hl
  | cons p r =>
    obtain ⟨hm, hb, hr⟩ := scan_spec r p
    refine ⟨?_, fun q hq => ?_⟩
    · rcases hm with hm | hm
      · exact List.mem_cons.mpr (Or.inl hm)
      · exact List.mem_cons_of_mem _ hm
    · rcases List.mem_cons.mp hq with rfl | hq
      · exact hb
      · exact hr q hq

/-- Give the large value to every slot that holds index `t`. -/
noncomputable def mask (big : EReal) (t : BitVec 32) (l : List Cell) : List Cell :=
  l.map fun p => (if p.2 = t then big else p.1, p.2)

variable {ι : Type} {big : EReal} {v : ℕ → EReal} {t : ℕ → BitVec 32}

/-- Before round `r`: the targets not yet selected are all in slots, and every other slot is larger than all sixteen. -/
structure Ready (v : ℕ → EReal) (t : ℕ → BitVec 32) (S : ι → List Cell) (r : ℕ) : Prop where
  /-- the remaining targets are present -/
  here : ∀ k, r ≤ k → k < 16 → ∃ a, (v k, t k) ∈ S a
  /-- a slot holds a remaining target or something larger -/
  only : ∀ a, ∀ p ∈ S a, (∃ k, r ≤ k ∧ k < 16 ∧ p = (v k, t k)) ∨ ∀ k < 16, v k < p.1

/-- In round `r` no lane's best is below target `r`, some lane's best is that target, and any lane whose best has the
    target's value holds the target's index. -/
theorem ready_best {S : ι → List Cell} {r : ℕ} (h : Ready v t S r) (hr : r < 16) (hv : ∀ j k, j < k → k < 16 → v j < v k)
    (hS : ∀ a, S a ≠ []) :
    (∀ a, v r ≤ (best big (S a)).1) ∧ (∃ a, best big (S a) = (v r, t r))
      ∧ ∀ a, (best big (S a)).1 = v r → (best big (S a)).2 = t r := by
  have hle : ∀ a, v r ≤ (best big (S a)).1 := fun a => by
    rcases h.only a _ (best_spec big (S a) (hS a)).1 with ⟨k, hrk, hk, hp⟩ | hlt
    · rw [hp]
      rcases Nat.lt_or_ge r k with hlt | hge
      · exact (hv r k hlt hk).le
      · rw [Nat.le_antisymm hrk hge]
    · exact (hlt r hr).le
  have heq : ∀ a, (best big (S a)).1 = v r → best big (S a) = (v r, t r) := fun a ha => by
    rcases h.only a _ (best_spec big (S a) (hS a)).1 with ⟨k, hrk, hk, hp⟩ | hlt
    · rcases Nat.lt_or_ge r k with hlt | hge
      · rw [hp] at ha
        exact absurd ha (hv r k hlt hk).ne'
      · rw [hp, Nat.le_antisymm hrk hge]
    · exact absurd ha (hlt r hr).ne'
  obtain ⟨a, ha⟩ := h.here r le_rfl hr
  refine ⟨hle, ⟨a, heq a (le_antisymm ((best_spec big (S a) (hS a)).2 _ ha) (hle a))⟩, fun a ha => ?_⟩
  rw [heq a ha]

/-- Masking target `r` prepares round `r + 1`. -/
theorem ready_mask {S : ι → List Cell} {r : ℕ} (h : Ready v t S r) (hr : r < 16)
    (hb : ∀ k < 16, v k < big) (ht : ∀ j k, j < k → k < 16 → t j ≠ t k) :
    Ready v t (fun a => mask big (t r) (S a)) (r + 1) := by
  refine ⟨fun k hk hk' => ?_, fun a p hp => ?_⟩
  · obtain ⟨a, ha⟩ := h.here k (by omega) hk'
    refine ⟨a, List.mem_map.mpr ⟨_, ha, ?_⟩⟩
    show (if t k = t r then big else v k, t k) = _
    rw [if_neg (ht r k (by omega) hk').symm]
  · obtain ⟨q, hq, rfl⟩ := List.mem_map.mp hp
    by_cases hqt : q.2 = t r
    · right
      intro k hk
      show v k < (if q.2 = t r then big else q.1)
      rw [if_pos hqt]
      exact hb k hk
    · have hq' : ((if q.2 = t r then big else q.1, q.2) : Cell) = q := by rw [if_neg hqt]
      rw [hq']
      rcases h.only a q hq with ⟨k, hrk, hk, hp⟩ | hlt
      · left
        refine ⟨k, ?_, hk, hp⟩
        rcases Nat.lt_or_ge r k with hlt | hge
        · exact hlt
        · exact absurd (by rw [hp, Nat.le_antisymm hrk hge]) hqt
      · exact Or.inr hlt

end Cert.Knn
-- ==== Proof.Bridge.lean ====
/- The array operations of the kernel read at one row and lane are the list operations on cells. -/
module

public import proofs.«01_k».proof.Proof.Model
public import proofs.«01_k».proof.Proof.Select
public import Idealize.ShloMosaic.PureOps.Ideal
public import Idealize.ShloMosaic.Lib.ValueIdx
public import Idealize.ShloMosaic.Lib.Pointwise

@[expose] public section

set_option maxRecDepth 16384

noncomputable section

namespace Cert.KernelIdeal.Knn

open Idealize.ShloMosaic Idealize.ShloMosaic.TcCoe Idealize.ShloMosaic.Tactic
open Cert.KernelIdeal Cert.KernelIdeal.Gen Cert.Knn

/-- The large value of an unused slot. -/
def big : EReal := (FloatOps.ofBits (F := Ideal) .f32 0x7149F2CA#32 : Ideal .f32)

/-- A slot read at a row and lane. -/
def cellAt (y : S1024x128.Idx) (p : Slot Ideal) : Cell := (p.1 y, p.2 y)

/-- A choice by a comparison of values. -/
theorem select_lt {α : Type} (a b : EReal) (u v : α) :
    Scalar.select (FloatOps.cmpf (F := Ideal) (φ := .f32) .olt a b) u v = if a < b then u else v := by
  by_cases h : a < b
  · rw [if_pos h]
    have : FloatOps.cmpf (F := Ideal) (φ := .f32) .olt a b = 1#1 := by
      show Ideal.cmp .olt a b = 1#1
      simp [Ideal.cmp, h]
    rw [this]; rfl
  · rw [if_neg h]
    have : FloatOps.cmpf (F := Ideal) (φ := .f32) .olt a b = 0#1 := by
      show Ideal.cmp .olt a b = 0#1
      simp [Ideal.cmp, h]
    rw [this]; rfl

/-- A choice by an equality of values. -/
theorem select_eq {α : Type} (a b : EReal) (u v : α) :
    Scalar.select (FloatOps.cmpf (F := Ideal) (φ := .f32) .oeq a b) u v = if a = b then u else v := by
  by_cases h : a = b
  · rw [if_pos h]
    have : FloatOps.cmpf (F := Ideal) (φ := .f32) .oeq a b = 1#1 := by
      show Ideal.cmp .oeq a b = 1#1
      simp [Ideal.cmp, h]
    rw [this]; rfl
  · rw [if_neg h]
    have : FloatOps.cmpf (F := Ideal) (φ := .f32) .oeq a b = 0#1 := by
      show Ideal.cmp .oeq a b = 0#1
      simp [Ideal.cmp, h]
    rw [this]; rfl

/-- A choice by an equality of indices. -/
theorem select_same {α : Type} (a b : BitVec 32) (u v : α) :
    Scalar.select (IntOp.cmpi .eq a b) u v = if a = b then u else v := by
  by_cases h : a = b
  · rw [if_pos h]; subst h; simp [IntOp.cmpi, Scalar.select]
  · rw [if_neg h]
    have : (a == b) = false := by simpa using h
    simp [IntOp.cmpi, Scalar.select, this]

/-- Insertion, at a row and lane. -/
theorem insV_at (y : S1024x128.Idx) (s : List (Slot Ideal)) : ∀ (x : FVec Ideal S1024x128 .f32) (i : IVec S1024x128 32),
    (insV s x i).map (cellAt y) = ins (s.map (cellAt y)) (x y) (i y) := by
  induction s with
  | nil => intros; rfl
  | cons p r ih =>
    intro x i
    have hc : ∀ {α : Type} (u v : S1024x128.Idx → α), select (cmpf .olt x p.1) u v y = if x y < p.1 y then u y else v y :=
      fun u v => select_lt (x y) (p.1 y) (u y) (v y)
    show _ :: (insV r _ _).map (cellAt y) = if x y < p.1 y then (x y, i y) :: ins _ (p.1 y) (p.2 y) else cellAt y p :: ins _ (x y) (i y)
    rw [ih]
    unfold cellAt
    simp only [hc]
    by_cases h : x y < p.1 y
    · simp only [if_pos h]
    · simp only [if_neg h]

/-- The scan, at a row and lane. -/
theorem scanV_at (y : S1024x128.Idx) (s : List (Slot Ideal)) : ∀ b : Slot Ideal,
    cellAt y (scanV s b) = scan (s.map (cellAt y)) (cellAt y b) := by
  induction s with
  | nil => intros; rfl
  | cons p r ih =>
    intro b
    have hc : ∀ {α : Type} (u v : S1024x128.Idx → α), select (cmpf .olt p.1 b.1) u v y = if p.1 y < b.1 y then u y else v y :=
      fun u v => select_lt (p.1 y) (b.1 y) (u y) (v y)
    refine (ih _).trans ?_
    show _ = scan _ (if p.1 y < b.1 y then cellAt y p else cellAt y b)
    unfold cellAt
    simp only [hc]
    by_cases h : p.1 y < b.1 y
    · simp only [if_pos h]
    · simp only [if_neg h]

/-- The best slot, at a row and lane. -/
theorem bestV_at (y : S1024x128.Idx) (s : List (Slot Ideal)) : cellAt y (bestV s) = best big (s.map (cellAt y)) := by
  cases s with
  | nil => rfl
  | cons p r => exact scanV_at y r p

/-- The first word of a least-value reduction is infinity. -/
theorem top_word : Ideal.ofBits FTy.f32 0x7F800000#32 = (⊤ : EReal) := by
  simp [Ideal.ofBits, Ideal.ieee]

/-- A minimum over a finite set that is met, and that no value goes under. -/
theorem fold_min_eq {ι : Type} [Fintype ι] (f : ι → EReal) (v : EReal) (hle : ∀ a, v ≤ f a) (hat : ∃ a, f a = v) :
    Finset.fold min (⊤ : EReal) f Finset.univ = v := by
  obtain ⟨a, ha⟩ := hat
  refine le_antisymm ?_ ?_
  · exact (Finset.fold_min_le v).mpr (Or.inr ⟨a, Finset.mem_univ a, ha.le⟩)
  · exact (Finset.le_fold_min v).mpr ⟨le_top, fun a _ => hle a⟩

/-- The smaller of a word and the largest word is the word. -/
theorem minsi_max (t : BitVec 32) : IntOp.minsi t 2147483647#32 = t := by
  unfold IntOp.minsi
  by_cases h : t.slt 2147483647#32 = true
  · rw [if_pos h]
  · rw [if_neg h]
    have hM : (2147483647#32 : BitVec 32).toInt = 2147483647 := by decide
    have hle : ¬ t.toInt < (2147483647#32 : BitVec 32).toInt := by simpa [BitVec.slt] using h
    have hlt := BitVec.toInt_lt (x := t)
    refine BitVec.eq_of_toInt_eq ?_
    rw [hM] at hle ⊢
    norm_num at hlt
    omega

/-- The smaller of the largest word and a word is the word. -/
theorem max_minsi (t : BitVec 32) : IntOp.minsi 2147483647#32 t = t := by
  unfold IntOp.minsi
  have hM : (2147483647#32 : BitVec 32).toInt = 2147483647 := by decide
  have hlt := BitVec.toInt_lt (x := t)
  rw [if_neg]
  simp only [BitVec.slt, hM, decide_eq_true_eq]
  norm_num at hlt
  omega

/-- The least index over lanes of which some give `t` and the others the largest word. -/
theorem fold_minsi_eq {ι : Type} [DecidableEq ι] (f : ι → BitVec 32) (t : BitVec 32) (s : Finset ι)
    (hf : ∀ a ∈ s, f a = t ∨ f a = 2147483647#32) :
    (Finset.fold IntOp.minsi 2147483647#32 f s = t ∨ Finset.fold IntOp.minsi 2147483647#32 f s = 2147483647#32)
      ∧ ((∃ a ∈ s, f a = t) → Finset.fold IntOp.minsi 2147483647#32 f s = t) := by
  have hc : ∀ x y : BitVec 32, (x = t ∨ x = 2147483647#32) → (y = t ∨ y = 2147483647#32) →
      (IntOp.minsi x y = t ∨ IntOp.minsi x y = 2147483647#32) ∧ ((x = t ∨ y = t) → IntOp.minsi x y = t) := by
    have hs : ∀ z : BitVec 32, IntOp.minsi z z = z := fun z => by unfold IntOp.minsi; split <;> rfl
    intro x y hx hy
    rcases hx with hx | hx <;> rcases hy with hy | hy <;> rw [hx, hy]
    · rw [hs]; exact ⟨Or.inl rfl, fun _ => rfl⟩
    · rw [minsi_max]; exact ⟨Or.inl rfl, fun _ => rfl⟩
    · rw [max_minsi]; exact ⟨Or.inl rfl, fun _ => rfl⟩
    · rw [hs]; exact ⟨Or.inr rfl, fun h => h.elim id id⟩
  induction s using Finset.induction_on with
  | empty => simp
  | insert a s ha ih =>
    obtain ⟨h1, h2⟩ := ih fun b hb => hf b (Finset.mem_insert_of_mem hb)
    obtain ⟨h3, h4⟩ := hc _ _ (hf a (Finset.mem_insert_self a s)) h1
    rw [Finset.fold_insert ha]
    refine ⟨h3, fun ⟨b, hb, hbt⟩ => h4 ?_⟩
    rcases Finset.mem_insert.mp hb with rfl | hb
    · exact Or.inl hbt
    · exact Or.inr (h2 ⟨b, hb, hbt⟩)

/-- The slots of a row, lane by lane. -/
def rowAt (l : List (Slot Ideal)) (r : Fin 1024) (a : Fin 128) : List Cell := l.map (cellAt (ix2 r a))

/-- A row's least value, as a minimum over lanes of the best slots. -/
theorem leastV_at (l : List (Slot Ideal)) (r : Fin 1024) :
    leastV l (ix2 r 0) = Finset.fold min (⊤ : EReal) (fun a => (best big (rowAt l r a)).1) Finset.univ := by
  have hb : ∀ a : Fin 128, (bestV l).1 (ix2 r a) = (best big (rowAt l r a)).1 := fun a => congrArg Prod.fst (bestV_at (ix2 r a) l)
  unfold leastV
  pointwise
  rw [top_word]
  simp only [hb]

/-- A row's picked index, as a minimum over the lanes whose best slot has the row's least value. -/
theorem pickV_at (l : List (Slot Ideal)) (r : Fin 1024) :
    pickV l (ix2 r 0) = Finset.fold IntOp.minsi 2147483647#32
      (fun a => if (best big (rowAt l r a)).1 = leastV l (ix2 r 0) then (best big (rowAt l r a)).2 else 2147483647#32) Finset.univ := by
  have hb : ∀ a : Fin 128, (bestV l).1 (ix2 r a) = (best big (rowAt l r a)).1 := fun a => congrArg Prod.fst (bestV_at (ix2 r a) l)
  have hb' : ∀ a : Fin 128, (bestV l).2 (ix2 r a) = (best big (rowAt l r a)).2 := fun a => congrArg Prod.snd (bestV_at (ix2 r a) l)
  unfold pickV
  pointwise
  simp only [hb, hb']

/-- One round masks the picked index in every lane of a row. -/
theorem roundV_at (l : List (Slot Ideal)) (r : Fin 1024) (a : Fin 128) :
    rowAt (roundV l) r a = mask big (pickV l (ix2 r 0)) (rowAt l r a) := by
  unfold rowAt roundV mask
  rw [List.map_map, List.map_map]
  refine List.map_congr_left fun p _ => ?_
  unfold cellAt big
  dsimp only [Function.comp]
  pointwise
  rw [select_same]

section Rounds

variable {v : ℕ → EReal} {t : ℕ → BitVec 32} (l : List (Slot Ideal)) (r : Fin 1024)

/-- A round that is ready selects its target. -/
theorem round_selects {n : ℕ} (h : Ready v t (rowAt l r) n) (hn : n < 16) (hv : ∀ j k, j < k → k < 16 → v j < v k)
    (hl : l ≠ []) : leastV l (ix2 r 0) = v n ∧ pickV l (ix2 r 0) = t n := by
  have hne : ∀ a, rowAt l r a ≠ [] := fun a => by simpa [rowAt] using hl
  obtain ⟨hle, ⟨a, ha⟩, heq⟩ := ready_best (big := big) h hn hv hne
  have hm : leastV l (ix2 r 0) = v n := by
    rw [leastV_at]
    exact fold_min_eq _ _ hle ⟨a, by rw [ha]⟩
  refine ⟨hm, ?_⟩
  rw [pickV_at, hm]
  refine (fold_minsi_eq _ _ Finset.univ fun b _ => ?_).2 ⟨a, Finset.mem_univ a, by rw [ha, if_pos rfl]⟩
  by_cases hb : (best big (rowAt l r b)).1 = v n
  · rw [if_pos hb]; exact Or.inl (heq b hb)
  · rw [if_neg hb]; exact Or.inr rfl

/-- The slots stay as many through the rounds. -/
theorem roundsV_ne (hl : l ≠ []) : ∀ n, roundsV l n ≠ []
  | 0 => hl
  | n + 1 => by
    have := roundsV_ne hl n
    unfold roundsV roundV
    simpa using this

/-- Every round is ready, from the first on. -/
theorem rounds_ready (h : Ready v t (rowAt l r) 0) (hv : ∀ j k, j < k → k < 16 → v j < v k)
    (hb : ∀ k < 16, v k < big) (ht : ∀ j k, j < k → k < 16 → t j ≠ t k) (hl : l ≠ []) :
    ∀ n, n ≤ 16 → Ready v t (rowAt (roundsV l n) r) n
  | 0, _ => h
  | n + 1, hn => by
    have ih := rounds_ready h hv hb ht hl n (by omega)
    have hs := (round_selects (roundsV l n) r ih (by omega) hv (roundsV_ne l hl n)).2
    have := ready_mask ih (by omega) hb ht
    have he : rowAt (roundsV l (n + 1)) r = fun a => mask big (t n) (rowAt (roundsV l n) r a) := funext fun a => by
      show rowAt (roundV (roundsV l n)) r a = _
      rw [roundV_at, hs]
    rw [he]
    exact this

/-- The sixteen columns of a row are its sixteen targets. -/
theorem outV_at (h : Ready v t (rowAt l r) 0) (hv : ∀ j k, j < k → k < 16 → v j < v k)
    (hb : ∀ k < 16, v k < big) (ht : ∀ j k, j < k → k < 16 → t j ≠ t k) (hl : l ≠ []) (k : Fin 16) :
    outDistV l (ix2 r k) = v k.val ∧ outIdxV l (ix2 r k) = t k.val := by
  have hs := round_selects (roundsV l k.val) r (rounds_ready l r h hv hb ht hl k.val (by omega)) k.isLt hv (roundsV_ne l hl k.val)
  unfold outDistV outIdxV
  constructor
  · pointwise
    exact hs.1
  · pointwise
    exact hs.2

end Rounds

end Cert.KernelIdeal.Knn
-- ==== Proof.Block.lean ====
/- One block of 2048 points, read at one row and lane: its even slices are shown to the first five slots and its odd
   slices to the last five, each slice contributing the lane's point. -/
module

public import proofs.«01_k».proof.Proof.Slots
public import proofs.«01_k».proof.Proof.Bridge

@[expose] public section

set_option maxRecDepth 16384

noncomputable section

namespace Cert.KernelIdeal.Knn

open Idealize.ShloMosaic Idealize.ShloMosaic.TcCoe Idealize.ShloMosaic.Tactic
open Cert.KernelIdeal Cert.KernelIdeal.Gen Cert.Knn

/-- Inserting slices, at a row and lane, is showing points. -/
theorem sweepV_at (y : S1024x128.Idx) (X : Fin 16 → FVec Ideal S1024x128 .f32) (I : Fin 16 → IVec S1024x128 32)
    (x : ℕ → EReal) (f : Fin 16 → ℕ) (hX : ∀ c, X c y = x (f c)) (hI : ∀ c, I c y = BitVec.ofNat 32 (f c)) :
    ∀ (cs : List (Fin 16)) (s : List (Slot Ideal)),
      (sweepV X I cs s).map (cellAt y) = sweep x (cs.map f) (s.map (cellAt y))
  | [], _ => rfl
  | c :: cs, s => by
    show (sweepV X I cs (insV s (X c) (I c))).map (cellAt y) = sweep x (cs.map f) (ins _ _ _)
    rw [sweepV_at y X I x f hX hI cs, insV_at, hX, hI]

/-- The index of a lane's point in a slice of a block. -/
def pointOf (n : ℕ) (a : Fin 128) (c : Fin 16) : ℕ := 2048 * n + 128 * c.val + a.val

/-- The column of a lane's point in a block. -/
def colOf (a : Fin 128) (c : Fin 16) : Fin 2048 := ⟨128 * c.val + a.val, by omega⟩

/-- The kernel's indices are the points' indices. -/
theorem idxV_at (n : ℕ) (c : Fin 16) (r : Fin 1024) (a : Fin 128) :
    idxV (BitVec.ofNat 32 n) c (ix2 r a) = BitVec.ofNat 32 (pointOf n a c) := by
  unfold idxV pointOf
  pointwise
  show BitVec.ofNat 32 a.val + (BitVec.ofNat 32 n * BitVec.ofNat 32 2048 + BitVec.ofNat 32 (128 * c.val)) = _
  rw [← BitVec.ofNat_mul, ← BitVec.ofNat_add, ← BitVec.ofNat_add]
  congr 1
  omega

/-- The squared length of a query, as a sum. -/
theorem qsqV_at (q : FVec Ideal S1024x128 .f32) (r : Fin 1024) :
    qsqV q (ix2 r 0) = ∑ d : Fin 128, q (ix2 r d) * q (ix2 r d) := by
  unfold qsqV k0_pay517
  pointwise

/-- The product of a query with a point of the block, as a sum. -/
theorem crossV_at (q : FVec Ideal S1024x128 .f32) (p : FVec Ideal S2048x128 .f32) (r : Fin 1024) (j : Fin 2048) :
    crossV q p (ix2 r j) = ∑ d : Fin 128, q (ix2 r d) * p (ix2 j d) := by
  unfold crossV k0_pay518
  pointwise

/-- A distance of a slice, from its three terms. -/
theorem distV_at (q2 : FVec Ideal S1024x1 .f32) (cr : FVec Ideal S1024x2048 .f32) (w : Fin 16 → FVec Ideal S1x128 .f32)
    (c : Fin 16) (r : Fin 1024) (a : Fin 128) : distV q2 cr w c (ix2 r a)
      = q2 (ix2 r 0) + w c (ix2 0 a) - Ideal.ofBits .f32 0x40000000#32 * cr (ix2 r (colOf a c)) := by
  unfold distV colOf
  pointwise

/-- The points below the first `n` blocks' end whose index is `b` modulo 256. -/
def seen (n b : ℕ) : Finset ℕ := (Finset.range (2048 * n)).filter fun k => k % 256 = b

/-- What a row's slots hold after `n` blocks: per lane, the first five have seen the lane's points of the even slices,
    the last five those of the odd slices. -/
def Held (x : ℕ → EReal) (l : List (Slot Ideal)) (r : Fin 1024) (n : ℕ) : Prop := ∀ a : Fin 128,
  Kept big x ((rowAt l r a).take 5) (seen n a.val) ∧ Kept big x ((rowAt l r a).drop 5) (seen n (128 + a.val))

/-- Before the first block the slots are unused. -/
theorem held_start (x : ℕ → EReal) (l : List (Slot Ideal)) (r : Fin 1024)
    (h : ∀ a, rowAt l r a = List.replicate 10 (big, 0#32)) : Held x l r 0 := fun a => by
  have he : ∀ b, seen 0 b = ∅ := fun b => by simp [seen]
  rw [h, he, he]
  exact ⟨kept_start big x, kept_start big x⟩

/-- A row's slots depend on the row alone. -/
theorem Held.of_rows {x : ℕ → EReal} {l l' : List (Slot Ideal)} {r : Fin 1024} {n : ℕ} (h : Held x l r n)
    (he : ∀ a, rowAt l' r a = rowAt l r a) : Held x l' r n := fun a => by rw [he]; exact h a

/-- The slices of one parity of a block are new points, and complete the points of their class. -/
theorem seen_block (n : ℕ) (a : Fin 128) (b : ℕ) (hb : b < 2) (cs : List (Fin 16)) (hcs : ∀ c : Fin 16, c ∈ cs ↔ c.val % 2 = b)
    (hnd : cs.Nodup) :
    (cs.map (pointOf n a)).Nodup ∧ (∀ k ∈ cs.map (pointOf n a), k ∉ seen n (128 * b + a.val))
      ∧ seen n (128 * b + a.val) ∪ (cs.map (pointOf n a)).toFinset = seen (n + 1) (128 * b + a.val) := by
  have ha := a.isLt
  refine ⟨hnd.map fun c d h => ?_, fun k hk hs => ?_, ?_⟩
  · unfold pointOf at h
    exact Fin.ext (by omega)
  · obtain ⟨c, -, rfl⟩ := List.mem_map.mp hk
    have := Finset.mem_range.mp (Finset.mem_filter.mp hs).1
    unfold pointOf at this
    omega
  · ext k
    simp only [seen, Finset.mem_union, Finset.mem_filter, Finset.mem_range, List.mem_toFinset, List.mem_map]
    constructor
    · rintro (⟨h1, h2⟩ | ⟨c, hc, rfl⟩)
      · exact ⟨by omega, h2⟩
      · have := (hcs c).mp hc
        have := c.isLt
        unfold pointOf
        exact ⟨by omega, by omega⟩
    · rintro ⟨h1, h2⟩
      by_cases hk : k < 2048 * n
      · exact Or.inl ⟨hk, h2⟩
      · refine Or.inr ⟨⟨(k - 2048 * n) / 128, by omega⟩, (hcs _).mpr ?_, ?_⟩
        · show (k - 2048 * n) / 128 % 2 = b
          omega
        · unfold pointOf
          show 2048 * n + 128 * ((k - 2048 * n) / 128) + a.val = k
          omega

/-- One block. -/
theorem held_block {x : ℕ → EReal} {l : List (Slot Ideal)} {r : Fin 1024} {n : ℕ} (h : Held x l r n)
    (q : FVec Ideal S1024x128 .f32) (p : FVec Ideal S2048x128 .f32) (w : Fin 16 → Vec Ideal S1x128 .f32)
    (hx : ∀ (a : Fin 128) (c : Fin 16), (∑ d : Fin 128, q (ix2 r d) * q (ix2 r d)) + w c (ix2 0 a)
      - Ideal.ofBits .f32 0x40000000#32 * (∑ d : Fin 128, q (ix2 r d) * p (ix2 (colOf a c) d)) = x (pointOf n a c)) :
    Held x (blockV (BitVec.ofNat 32 n) q p w l) r (n + 1) := fun a => by
  obtain ⟨h1, h2⟩ := h a
  have hX : ∀ c, distV (qsqV q) (crossV q p) w c (ix2 r a) = x (pointOf n a c) := fun c => by
    rw [distV_at, qsqV_at, crossV_at, hx]
  have hs := sweepV_at (ix2 r a) _ _ x (pointOf n a) hX (fun c => idxV_at n c r a)
  obtain ⟨e1, e2, e3⟩ := seen_block n a 0 (by omega) evens (by decide) (by decide)
  obtain ⟨o1, o2, o3⟩ := seen_block n a 1 (by omega) odds (by decide) (by decide)
  rw [show 128 * 0 + a.val = a.val by omega] at e2 e3
  rw [show 128 * 1 + a.val = 128 + a.val by omega] at o2 o3
  have k1 := kept_sweep _ h1 e1 e2
  have k2 := kept_sweep _ h2 o1 o2
  rw [e3] at k1
  rw [o3] at k2
  have hr : rowAt (blockV (BitVec.ofNat 32 n) q p w l) r a
      = sweep x (evens.map (pointOf n a)) ((rowAt l r a).take 5) ++ sweep x (odds.map (pointOf n a)) ((rowAt l r a).drop 5) := by
    unfold rowAt blockV
    rw [List.map_append, hs, hs, List.map_take, List.map_drop]
  rw [hr]
  rw [List.take_left' k1.length, List.drop_left' k1.length]
  exact ⟨k1, k2⟩

/-- After all blocks the slots are ready for selection: sixteen points in strictly increasing order, nearer than any
    other, no more than five of them alike modulo 256, each nearer than the large value. -/
theorem held_ready {x : ℕ → EReal} {l : List (Slot Ideal)} {r : Fin 1024} (h : Held x l r 49) (T : ℕ → ℕ)
    (hT : ∀ k < 16, T k < 100000) (hx : ∀ j k, j < k → k < 16 → x (T j) < x (T k)) (hb : ∀ k < 16, x (T k) < big)
    (ho : ∀ n < 100352, (∃ k < 16, n = T k) ∨ ∀ k < 16, x (T k) < x n)
    (hc : ∀ b, ((Finset.range 16).filter fun k => T k % 256 = b).card ≤ 5) :
    Ready (fun k => x (T k)) (fun k => BitVec.ofNat 32 (T k)) (rowAt l r) 0 := by
  have hfew : ∀ k < 16, ((seen 49 (T k % 256)).filter fun n => x n ≤ x (T k)).card ≤ 5 := fun k hk => by
    refine le_trans (Finset.card_le_card ?_) ((Finset.card_image_le (f := T)).trans (hc (T k % 256)))
    intro n hn
    obtain ⟨hn1, hn2⟩ := Finset.mem_filter.mp hn
    obtain ⟨hn3, hn4⟩ := Finset.mem_filter.mp hn1
    rw [Finset.mem_range] at hn3
    rcases ho n (by omega) with ⟨j, hj, rfl⟩ | hlt
    · exact Finset.mem_image.mpr ⟨j, Finset.mem_filter.mpr ⟨Finset.mem_range.mpr hj, hn4⟩, rfl⟩
    · exact absurd (hlt k hk) (not_lt.mpr hn2)
  have hin : ∀ k < 16, T k ∈ seen 49 (T k % 256) := fun k hk => by
    have := hT k hk
    exact Finset.mem_filter.mpr ⟨Finset.mem_range.mpr (by omega), rfl⟩
  refine ⟨fun k _ hk => ?_, fun a p hp => ?_⟩
  · by_cases hlo : T k % 256 < 128
    · refine ⟨⟨T k % 256, hlo⟩, List.mem_of_mem_take (i := 5) ?_⟩
      have := (h ⟨T k % 256, hlo⟩).1
      exact kept_mem this (T k) (hin k hk) (hb k hk) (hfew k hk)
    · have hlt : T k % 256 - 128 < 128 := by omega
      refine ⟨⟨T k % 256 - 128, hlt⟩, List.mem_of_mem_drop (i := 5) ?_⟩
      have := (h ⟨T k % 256 - 128, hlt⟩).2
      rw [show 128 + (⟨T k % 256 - 128, hlt⟩ : Fin 128).val = T k % 256 from by show 128 + (T k % 256 - 128) = _; omega] at this
      exact kept_mem this (T k) (hin k hk) (hb k hk) (hfew k hk)
  · have hp' : p = (big, 0#32) ∨ ∃ n < 100352, p = entry x n := by
      rw [← List.take_append_drop 5 (rowAt l r a)] at hp
      rcases List.mem_append.mp hp with hp | hp
      · rcases kept_of_mem (h a).1 p hp with h' | ⟨n, hn, h'⟩
        · exact Or.inl h'
        · exact Or.inr ⟨n, by simpa using Finset.mem_range.mp (Finset.mem_filter.mp hn).1, h'⟩
      · rcases kept_of_mem (h a).2 p hp with h' | ⟨n, hn, h'⟩
        · exact Or.inl h'
        · exact Or.inr ⟨n, by simpa using Finset.mem_range.mp (Finset.mem_filter.mp hn).1, h'⟩
    rcases hp' with rfl | ⟨n, hn, rfl⟩
    · exact Or.inr hb
    · rcases ho n hn with ⟨k, hk, rfl⟩ | hlt
      · exact Or.inl ⟨k, Nat.zero_le k, hk, rfl⟩
      · exact Or.inr hlt

end Cert.KernelIdeal.Knn
-- ==== Proof.Arrays.lean ====
/- The arrays the kernel's blocks are read from: the queries as given, the points padded with zeros, and the points'
   squared lengths padded with the large value. -/
module

public import proofs.«01_k».proof.Proof.Block
public import proofs.«01_k».proof.Proof.Gen.KernelIdeal.Value
public import Idealize.ShloMosaic.Lib.StableHlo.Run
public import Idealize.ShloMosaic.Lib.Tactic

@[expose] public section

set_option maxRecDepth 16384

noncomputable section

namespace Cert.KernelIdeal.Knn

open Idealize.ShloMosaic Idealize.ShloMosaic.TcCoe Idealize.ShloMosaic.Tactic Idealize.ShloMosaic.StableHlo
open Cert.KernelIdeal Cert.KernelIdeal.Gen Cert.Knn

section Host

variable {F : FTy → Type} [FloatOps F]
variable (m : (ℓ : Loc nD τ sig) → Buf (Elt F) ℓ)

/-- The points' squared lengths, padded. -/
def sqV (p : FVec F S100000x128 .f32) : FVec F S1x100352 .f32 :=
  shapeCast S1x100352 (pad S100352 ![0] ![352] ![0]
    (Host.reduceAdd (mulf p p) (constant S_ .f32 0x00000000#32) reducesTo_S100000x128_S100000_d1 h_S_)
    (constant S_ .f32 0x7149F2CA#32) pads_S100000_S100352_03520 h_S_) shapeCasts_S100352_S1x100352

/-- The points, padded. -/
def padV (p : FVec F S100000x128 .f32) : FVec F S100352x128 .f32 :=
  pad S100352x128 ![0, 0] ![352, 0] ![0, 0] p (sitofp .f32 (constantI S_ 32 0#32)) pads_S100000x128_S100352x128_03520_000 h_S_

/-- The kernel finds the padded points. -/
theorem V_points (c : Dev nD) : V m c main_v4 = padV (m ((c : Thread nD τ).loc main_arg0)) := by
  unfold V
  simp only [List.flatten_cons, List.flatten_nil, List.append_nil, List.cons_append, List.nil_append]
  after_results
  rfl

/-- The kernel finds the padded squared lengths. -/
theorem V_sq (c : Dev nD) : V m c main_v3 = sqV (m ((c : Thread nD τ).loc main_arg0)) := by
  unfold V
  simp only [List.flatten_cons, List.flatten_nil, List.append_nil, List.cons_append, List.nil_append]
  after_results
  rfl

/-- The queries' block is the queries. -/
theorem iblk_q (c : Dev nD) (t : Fin cfg0.N) (r : Fin 1024) (d : Fin 128) :
    (iblk m c 0 t : Vec F S1024x128 .f32) (ix2 r d) = (m ((c : Thread nD τ).loc main_arg1) : Vec F S1024x128 .f32) (ix2 r d) := by
  rw [← V_main_arg1 m c]
  unfold iblk
  rw [View.read_apply]
  show V m c main_arg1 _ = V m c main_arg1 _
  congr 1
  funext a
  apply Fin.ext
  match a with
  | ⟨0, _⟩ => show win0_0.index t 0 * 1024 + 1 * r.val = r.val; rw [show win0_0.index t 0 = 0 from rfl]; omega
  | ⟨1, _⟩ => show win0_0.index t 1 * 128 + 1 * d.val = d.val; rw [show win0_0.index t 1 = 0 from rfl]; omega

/-- The grid point's number, as the block index reads it. -/
theorem index_at (t : Fin cfg0.N) : (grid0.coords t 0).val = t.val ∧ t.val < 49 := by
  have hN : cfg0.N = 49 := N_0
  have := t.isLt
  refine ⟨?_, by omega⟩
  rw [Pipeline.Grid.coords_val t 0 (S := 1) (B := 49) (by decide) rfl]
  omega

/-- A block of points. -/
theorem iblk_p (c : Dev nD) (t : Fin cfg0.N) (j : Fin 2048) (d : Fin 128) (h : 2048 * t.val + j.val < 100352) :
    (iblk m c 1 t : Vec F S2048x128 .f32) (ix2 j d) = padV (m ((c : Thread nD τ).loc main_arg0)) (ix2 ⟨2048 * t.val + j.val, h⟩ d) := by
  rw [← V_points m c]
  unfold iblk
  rw [View.read_apply]
  show V m c main_v4 _ = V m c main_v4 _
  congr 1
  obtain ⟨h0, h1⟩ := index_at t
  have hi : win0_1.index t 0 = t.val := by
    show (BitVec.ofNat 32 (grid0.coords t 0).val).toNat = t.val
    rw [h0, BitVec.toNat_ofNat]
    omega
  funext a
  apply Fin.ext
  match a with
  | ⟨0, _⟩ => show win0_1.index t 0 * 2048 + 1 * j.val = 2048 * t.val + j.val; rw [hi]; omega
  | ⟨1, _⟩ => show win0_1.index t 1 * 128 + 1 * d.val = d.val; rw [show win0_1.index t 1 = 0 from rfl]; omega

/-- A block of squared lengths. -/
theorem iblk_w (c : Dev nD) (t : Fin cfg0.N) (j : Fin 2048) (h : 2048 * t.val + j.val < 100352) :
    (iblk m c 2 t : Vec F S1x2048 .f32) (ix2 0 j) = sqV (m ((c : Thread nD τ).loc main_arg0)) (ix2 0 ⟨2048 * t.val + j.val, h⟩) := by
  rw [← V_sq m c]
  unfold iblk
  rw [View.read_apply]
  show V m c main_v3 _ = V m c main_v3 _
  congr 1
  obtain ⟨h0, h1⟩ := index_at t
  have hi : win0_2.index t 1 = t.val := by
    show (BitVec.ofNat 32 (grid0.coords t 0).val).toNat = t.val
    rw [h0, BitVec.toNat_ofNat]
    omega
  funext a
  apply Fin.ext
  match a with
  | ⟨0, _⟩ => show win0_2.index t 0 * 1 + 1 * 0 = 0; rw [show win0_2.index t 0 = 0 from rfl]
  | ⟨1, _⟩ => show win0_2.index t 1 * 2048 + 1 * j.val = 2048 * t.val + j.val; rw [hi]; omega

end Host

/-- A padded point. -/
theorem padV_at (p : FVec Ideal S100000x128 .f32) (n : Fin 100352) (d : Fin 128) :
    padV p (ix2 n d) = if h : n.val < 100000 then p (ix2 ⟨n.val, h⟩ d) else 0 := by
  unfold padV
  pointwise
  rw [show (FloatOps.sitofp (F := Ideal) FTy.f32 (0#32 : BitVec 32) : EReal) = 0 by
    show (((0#32 : BitVec 32).toInt : ℝ) : EReal) = 0
    simp]

/-- A padded squared length. -/
theorem sqV_at (p : FVec Ideal S100000x128 .f32) (n : Fin 100352) :
    sqV p (ix2 0 n) = if h : n.val < 100000 then ∑ d : Fin 128, p (ix2 ⟨n.val, h⟩ d) * p (ix2 ⟨n.val, h⟩ d) else big := by
  unfold sqV
  pointwise
  rfl

end Cert.KernelIdeal.Knn
-- ==== Proof.Scratch.lean ====
/- What a block leaves in the two scratch arrays is what the next block loads from them, and what the last block leaves in
   the two results is what it selects. -/
module

public import proofs.«01_k».proof.Proof.Block
public import Idealize.ShloMosaic.Lib.Pipeline.Value
public import Idealize.ShloMosaic.Lib.WholeRead
public import Idealize.ShloMosaic.Lib.VecWindow

@[expose] public section

set_option maxRecDepth 16384

noncomputable section

namespace Cert.KernelIdeal.Knn

open Idealize.ShloMosaic Idealize.ShloMosaic.TcCoe Idealize.ShloMosaic.Tactic
open Cert.KernelIdeal Cert.KernelIdeal.Gen Cert.Knn

section Stack

variable {F : FTy → Type} [FloatOps F]

/-- The piece that stores slot `k`. -/
def slotPiece {e : EltTy} (g : Fin 10 → S1024x128.Idx → Elt F e) (k : Fin 10) : View.Piece (Elt F) S10x1024x128 e :=
  ⟨Rect.unit ![k.val, 0, 0] ![1, 1024, 128] (inb_slot k), shapeCast S1x1024x128 (g k) shapeCasts_S1024x128_S1x1024x128⟩

/-- The index of slot `k`, row and lane in its piece. -/
def inSlot (r : Fin 1024) (a : Fin 128) : S1x1024x128.Idx := ix3 (0 : Fin 1) r a

/-- A piece's index in the whole array. -/
theorem slot_emb {e : EltTy} (g : Fin 10 → S1024x128.Idx → Elt F e) (k : Fin 10) (r : Fin 1024) (a : Fin 128) :
    (slotPiece g k).1.emb (inSlot r a) = ix3 k r a := by
  funext d
  apply Fin.ext
  match d with
  | ⟨0, _⟩ => show k.val + 1 * 0 = k.val; omega
  | ⟨1, _⟩ => show 0 + 1 * r.val = r.val; omega
  | ⟨2, _⟩ => show 0 + 1 * a.val = a.val; omega

/-- Ten slots stored one after the other are read back slot by slot. -/
theorem read_slots {sp : Space} {e : EltTy} (v : View sig .tc sp S10x1024x128 e) (f : v.ty.Contents (Elt F))
    (g : Fin 10 → S1024x128.Idx → Elt F e) (k : Fin 10) (r : Fin 1024) (a : Fin 128) :
    v.read (Elt F) (v.writes (Elt F) f ((List.finRange 10).map (slotPiece g)).reverse) (ix3 k r a) = g k (ix2 r a) := by
  have h := View.read_writes_of_unique v f (slotPiece g k) (inSlot r a) ((List.finRange 10).map (slotPiece g)).reverse
    (List.mem_reverse.mpr (List.mem_map_of_mem (List.mem_finRange k))) (fun q hq hy => by
      obtain ⟨j, -, rfl⟩ := List.mem_map.mp (List.mem_reverse.mp hq)
      rw [slot_emb] at hy
      have hy' : ix3 k r a ∈ (Rect.unit (s := S10x1024x128) ![j.val, 0, 0] ![1, 1024, 128] (inb_slot j)).set := hy
      rw [Rect.mem_set_unit] at hy'
      have h0 : j.val ≤ k.val ∧ k.val < j.val + 1 := hy' 0
      obtain rfl : j = k := Fin.ext (by omega)
      rfl)
  rw [slot_emb] at h
  rw [h]
  unfold slotPiece inSlot
  dsimp only
  pointwise

end Stack

variable (l : List (Slot Ideal)) (hl : l.length = 10)

/-- The pieces of the values, slot by slot. -/
theorem valPieces_eq : valPieces l = ((List.finRange 10).map (slotPiece fun k => (l[k.val]'(by omega)).1)).reverse := by
  unfold valPieces
  congr 1
  apply List.ext_getElem
  · simp [hl]
  · intro n h1 h2
    simp [slotPiece]

/-- The pieces of the indices, slot by slot. -/
theorem idxPieces_eq : idxPieces l = ((List.finRange 10).map (slotPiece fun k => (l[k.val]'(by omega)).2)).reverse := by
  unfold idxPieces
  congr 1
  apply List.ext_getElem
  · simp [hl]
  · intro n h1 h2
    simp [slotPiece]

/-- Two stored arrays of ten slots, at a row and lane. -/
def cells (x : Vec Ideal S10x1024x128 .f32) (i : Vec Ideal S10x1024x128 .i32) (r : Fin 1024) (a : Fin 128) : List Cell :=
  (List.finRange 10).map fun k => (x (ix3 k r a), i (ix3 k r a))

include hl in
/-- Slots stored over anything are read back. -/
theorem cells_stored {sp sp' : Space} (v : View sig .tc sp S10x1024x128 .f32) (w : View sig .tc sp' S10x1024x128 .i32)
    (f : v.ty.Contents (Elt Ideal)) (g : w.ty.Contents (Elt Ideal)) (r : Fin 1024) (a : Fin 128) :
    cells (v.read (Elt Ideal) (v.writes (Elt Ideal) f (valPieces l))) (w.read (Elt Ideal) (w.writes (Elt Ideal) g (idxPieces l))) r a
      = rowAt l r a := by
  unfold cells rowAt
  rw [valPieces_eq l hl, idxPieces_eq l hl]
  simp only [read_slots]
  apply List.ext_getElem
  · simp [hl]
  · intro n h1 h2
    simp [cellAt]

/-- Slots taken out of two loads. -/
theorem slotsV_at (L : Fin 10 → Vec Ideal S1x1024x128 .f32) (M : Fin 10 → Vec Ideal S1x1024x128 .i32) (r : Fin 1024) (a : Fin 128) :
    rowAt (slotsV L M) r a = (List.finRange 10).map fun k => (L k (inSlot r a), M k (inSlot r a)) := by
  unfold rowAt slotsV
  rw [List.map_map]
  refine List.map_congr_left fun k _ => ?_
  unfold cellAt inSlot
  dsimp only [Function.comp]
  pointwise

/-- A load's index of slot `k`. -/
theorem slot_idx (k : Fin 10) (r : Fin 1024) (a : Fin 128) :
    (Rect.unit (s := S10x1024x128) ![k.val, 0, 0] S1x1024x128.size (inb_slot k)).toLoadRect.idx (inSlot r a) = ix3 k r a := by
  funext d
  apply Fin.ext
  match d with
  | ⟨0, _⟩ => show k.val + 1 * 0 = k.val; omega
  | ⟨1, _⟩ => show 0 + 1 * r.val = r.val; omega
  | ⟨2, _⟩ => show 0 + 1 * a.val = a.val; omega

variable (arg1 : Memref sig .tc .vmem S1024x128 .f32) (harg1 : arg1.IsWhole)
  (arg2 : Memref sig .tc .vmem S2048x128 .f32) (harg2 : arg2.IsWhole) (arg3 : Memref sig .tc .vmem S1x2048 .f32) (harg3 : arg3.IsWhole)
  (arg6 : Memref sig .tc .vmem S10x1024x128 .f32) (harg6 : arg6.IsWhole) (arg7 : Memref sig .tc .vmem S10x1024x128 .i32) (harg7 : arg7.IsWhole)
  (x0 : Vec Ideal S1024x128 .f32) (x1 : Vec Ideal S2048x128 .f32) (x2 : Vec Ideal S1x2048 .f32)
  (xs0 : Vec Ideal S10x1024x128 .f32) (xs1 : Vec Ideal S10x1024x128 .i32)

/-- A later block starts from the slots stored. -/
theorem heldV_at (r : Fin 1024) (a : Fin 128) : rowAt (heldV arg6 harg6 arg7 harg7 xs0 xs1) r a = cells xs0 xs1 r a := by
  unfold heldV
  rw [slotsV_at]
  unfold cells
  refine List.map_congr_left fun k _ => ?_
  unfold loadV loadI
  rw [Memref.IsWhole.readAt_unread, Memref.IsWhole.readAt_unread, slot_idx]

/-- The first block starts from unused slots. -/
theorem startV_at (r : Fin 1024) (a : Fin 128) : rowAt (startV (F := Ideal) arg6 arg7) r a = List.replicate 10 (big, 0#32) := by
  have h := cells_stored (List.replicate 10 freeV) (by simp) arg6.view arg7.view arg6.view.junk arg7.view.junk r a
  have he : rowAt (List.replicate 10 (freeV (F := Ideal))) r a = List.replicate 10 (big, 0#32) := by
    unfold rowAt
    rw [List.map_replicate]
    rfl
  rw [he] at h
  rw [← h]
  unfold startV
  rw [slotsV_at]
  unfold cells
  refine List.map_congr_left fun k _ => ?_
  unfold View.readCov
  rw [View.readAt_apply, View.readAt_apply, slot_idx]

/-- The queries as loaded. -/
theorem loadQ_at (r : Fin 1024) (d : Fin 128) : loadQ arg1 harg1 x0 (ix2 r d) = x0 (ix2 r d) := by
  unfold loadQ
  rw [Memref.IsWhole.readAt_unread]
  congr 1
  funext b
  apply Fin.ext
  match b with
  | ⟨0, _⟩ => show 0 + 1 * r.val = r.val; omega
  | ⟨1, _⟩ => show 0 + 1 * d.val = d.val; omega

/-- The block of points as loaded. -/
theorem loadP_at (j : Fin 2048) (d : Fin 128) : loadP arg2 harg2 x1 (ix2 j d) = x1 (ix2 j d) := by
  unfold loadP
  rw [Memref.IsWhole.readAt_unread]
  congr 1
  funext b
  apply Fin.ext
  match b with
  | ⟨0, _⟩ => show 0 + 1 * j.val = j.val; omega
  | ⟨1, _⟩ => show 0 + 1 * d.val = d.val; omega

/-- The squared lengths of a slice as loaded. -/
theorem loadW_at (k : Fin 16) (a : Fin 128) : loadW arg3 harg3 x2 k (ix2 0 a) = x2 (ix2 0 (colOf a k)) := by
  unfold loadW
  rw [Memref.IsWhole.readAt_unread]
  congr 1
  funext b
  apply Fin.ext
  match b with
  | ⟨0, _⟩ => show 0 + 1 * 0 = 0; omega
  | ⟨1, _⟩ => show 128 * k.val + 1 * a.val = 128 * k.val + a.val; omega

end Cert.KernelIdeal.Knn
-- ==== Proof.Fold.lean ====
/- The kernel over its 49 blocks: by induction on the block, the scratch arrays hold per lane the five nearest points seen
   so far of each class modulo 256; so the last block selects from the nearest of all the points. -/
module

public import proofs.«01_k».proof.Proof.Arrays
public import proofs.«01_k».proof.Proof.Scratch

@[expose] public section

set_option maxRecDepth 16384

noncomputable section

namespace Cert.KernelIdeal.Knn

open Idealize.ShloMosaic Idealize.ShloMosaic.TcCoe Idealize.ShloMosaic.Tactic
open Cert.KernelIdeal Cert.KernelIdeal.Gen Cert.KernelIdeal.Value Cert.Knn

/-- The squared length of a query, as the kernel sums it. -/
def lenQ (q : FVec Ideal S1024x128 .f32) (r : Fin 1024) : EReal := ∑ d : Fin 128, q (ix2 r d) * q (ix2 r d)

/-- The distance the kernel computes between query `r` and point `n` of the padded points. -/
def far (p : FVec Ideal S100000x128 .f32) (q : FVec Ideal S1024x128 .f32) (r : Fin 1024) (n : ℕ) : EReal :=
  if h : n < 100352 then
    lenQ q r + sqV p (ix2 0 ⟨n, h⟩) - Ideal.ofBits .f32 0x40000000#32 * ∑ d : Fin 128, q (ix2 r d) * padV p (ix2 ⟨n, h⟩ d)
  else 0

variable (m : (ℓ : Loc nD τ sig) → Buf (Elt Ideal) ℓ)

/-- The distances of query `r`, of the arrays the program starts with. -/
def farM (c : Dev nD) (r : Fin 1024) : ℕ → EReal :=
  far (m ((c : Thread nD τ).loc main_arg0)) (m ((c : Thread nD τ).loc main_arg1)) r

/-- The slots a point's block ends with, from the slots it starts with. -/
def doneAt (c : Dev nD) (t : Fin cfg0.N) (l : List (Slot Ideal)) : List (Slot Ideal) :=
  doneV (grid0.coords t) (ms0_0 t) (hs0_0 t) (ms0_1 t) (hs0_1 t) (ms0_2 t) (hs0_2 t) (iblk m c 0 t) (iblk m c 1 t) (iblk m c 2 t) l

/-- One block. -/
theorem doneAt_held (c : Dev nD) (t : Fin cfg0.N) (l : List (Slot Ideal)) (r : Fin 1024)
    (h : Held (farM m c r) l r t.val) : Held (farM m c r) (doneAt m c t l) r (t.val + 1) := by
  obtain ⟨h0, h1⟩ := index_at t
  unfold doneAt doneV
  rw [h0]
  refine held_block h _ _ _ fun a k => ?_
  have hk := k.isLt
  have ha := a.isLt
  have hlt : 2048 * t.val + (colOf a k).val < 100352 := by
    show 2048 * t.val + (128 * k.val + a.val) < 100352
    omega
  have hn : pointOf t.val a k = 2048 * t.val + (colOf a k).val := by
    show 2048 * t.val + 128 * k.val + a.val = 2048 * t.val + (128 * k.val + a.val)
    omega
  rw [hn, loadW_at, iblk_w m c t _ hlt]
  simp only [loadQ_at, loadP_at, iblk_q, iblk_p m c t _ _ hlt]
  unfold farM far lenQ
  rw [dif_pos hlt]

/-- Slots held for a row are ten. -/
theorem held_length {x : ℕ → EReal} {l : List (Slot Ideal)} {r : Fin 1024} {n : ℕ} (h : Held x l r n) : l.length = 10 := by
  have h1 := (h 0).1.length
  have h2 := (h 0).2.length
  unfold rowAt at h1 h2
  simp only [List.length_take, List.length_drop, List.length_map] at h1 h2
  omega

/-- Scratch arrays that hold, row by row, slots that have seen the points of `n` blocks. -/
def Stored (c : Dev nD) (x : Vec Ideal S10x1024x128 .f32) (i : Vec Ideal S10x1024x128 .i32) (n : ℕ) : Prop :=
  ∃ l : List (Slot Ideal), (∀ r, Held (farM m c r) l r n) ∧ ∀ r a, cells x i r a = rowAt l r a

/-- The first block. -/
theorem scratch_first (c : Dev nD) (hn : 0 < cfg0.N) :
    Stored m c (outsAt0 m c 0 hn).2.2.1 (outsAt0 m c 0 hn).2.2.2 1 := by
  have hh : ∀ r, Held (farM m c r) (doneAt m c ⟨0, hn⟩ (startV scM0_0 scM0_1)) r 1 := fun r =>
    doneAt_held m c ⟨0, hn⟩ _ r (held_start _ _ r fun a => startV_at scM0_0 scM0_1 r a)
  refine ⟨_, hh, fun r a => ?_⟩
  rw [outsAt0_zero, stAt0_A m c ⟨0, hn⟩ _ (Nat.zero_mod _) (by dsimp only; omega)]
  dsimp only
  unfold sout0_A_0 sout0_A_1
  refine (congrArg₂ (fun L M => cells (VS0_0.read (Elt Ideal) (VS0_0.writes (Elt Ideal) VS0_0.junk L))
    (VS0_1.read (Elt Ideal) (VS0_1.writes (Elt Ideal) VS0_1.junk M)) r a)
    (vals_A _ _ _ _ _ _ _ _ _ _ _ _ _ _ _ _ _ _ _ _ _) (idxs_A _ _ _ _ _ _ _ _ _ _ _ _ _ _ _ _ _ _ _ _ _)).trans ?_
  rw [View.writes_append, View.writes_append]
  exact cells_stored _ (held_length (hh 0)) _ _ _ _ r a

/-- A later block. -/
theorem scratch_next (c : Dev nD) (n : ℕ) (hn : n + 1 < cfg0.N) (h48 : n + 1 < 48)
    (h : Stored m c (outsAt0 m c n (Nat.lt_of_succ_lt hn)).2.2.1 (outsAt0 m c n (Nat.lt_of_succ_lt hn)).2.2.2 (n + 1)) :
    Stored m c (outsAt0 m c (n + 1) hn).2.2.1 (outsAt0 m c (n + 1) hn).2.2.2 (n + 2) := by
  rw [outsAt0_succ]
  generalize outsAt0 m c n (Nat.lt_of_succ_lt hn) = acc at h ⊢
  obtain ⟨l, hl, hc⟩ := h
  have hh : ∀ r, Held (farM m c r) (doneAt m c ⟨n + 1, hn⟩ (heldV scM0_0 (Memref.isWhole_whole _) scM0_1 (Memref.isWhole_whole _)
      acc.2.2.1 acc.2.2.2)) r (n + 2) := fun r =>
    doneAt_held m c ⟨n + 1, hn⟩ _ r ((hl r).of_rows fun a => (heldV_at _ _ _ _ _ _ r a).trans (hc r a))
  refine ⟨_, hh, fun r a => ?_⟩
  rw [stAt0_B m c ⟨n + 1, hn⟩ _ (by dsimp only; omega) (by dsimp only; omega)]
  dsimp only
  unfold sout0_B_0 sout0_B_1
  refine (congrArg₂ (fun L M => cells (VS0_0.read (Elt Ideal) (VS0_0.writes (Elt Ideal) VS0_0.junk L))
    (VS0_1.read (Elt Ideal) (VS0_1.writes (Elt Ideal) VS0_1.junk M)) r a)
    (vals_B _ _ _ _ _ _ _ _ _ _ _ _ _ _ _ _ _ _ _ _ _ _ _) (idxs_B _ _ _ _ _ _ _ _ _ _ _ _ _ _ _ _ _ _ _ _ _ _ _)).trans ?_
  exact cells_stored _ (held_length (hh 0)) _ _ _ _ r a

/-- What the scratch arrays hold after point `n`, before the last. -/
theorem scratch_held (c : Dev nD) (n : ℕ) : ∀ hn : n < cfg0.N, n < 48 →
    Stored m c (outsAt0 m c n hn).2.2.1 (outsAt0 m c n hn).2.2.2 (n + 1) := by
  induction n with
  | zero => exact fun hn _ => scratch_first m c hn
  | succ n ih => exact fun hn h48 => scratch_next m c n hn h48 (ih _ (by omega))

/-- The two results are selected from slots that have seen all the points. -/
theorem results (c : Dev nD) : ∃ l : List (Slot Ideal), (∀ r, Held (farM m c r) l r 49)
    ∧ G3 m c = outDistV l ∧ G4 m c = outIdxV l := by
  have hn : 48 < cfg0.N := lt_of_lt_of_eq (by decide) N_0.symm
  obtain ⟨l, hl, hc⟩ := scratch_held m c 47 (Nat.lt_of_succ_lt hn) (by omega)
  refine ⟨doneAt m c ⟨48, hn⟩ (heldV scM0_0 (Memref.isWhole_whole _) scM0_1 (Memref.isWhole_whole _)
        (outsAt0 m c 47 (Nat.lt_of_succ_lt hn)).2.2.1 (outsAt0 m c 47 (Nat.lt_of_succ_lt hn)).2.2.2),
    fun r => doneAt_held m c ⟨48, hn⟩ _ r ((hl r).of_rows fun a => (heldV_at _ _ _ _ _ _ r a).trans (hc r a)), ?_, ?_⟩
  · rw [G3_last, ← outsAt0_sweep m c 48 hn, outsAt0_succ m c 47 hn, stAt0_C m c ⟨48, hn⟩ _ (by dsimp only; omega) (by dsimp only)]
    dsimp only
    unfold out0_C_3
    rw [dist_C]
    exact View.read_writes_full _ _ _ _ _
  · rw [G4_last, ← outsAt0_sweep m c 48 hn, outsAt0_succ m c 47 hn, stAt0_C m c ⟨48, hn⟩ _ (by dsimp only; omega) (by dsimp only)]
    dsimp only
    unfold out0_C_4
    rw [idx_C]
    exact View.read_writes_full _ _ _ _ _

end Cert.KernelIdeal.Knn
-- ==== Proof.Ranks.lean ====
/- The stable selection of the greatest entries of each row, read as a ranking of the row's columns: which column a rank
   takes, that every column has a rank, and that later ranks are never greater. -/
module

public import proofs.«01_k».proof.ReferenceIdeal
public import Idealize.ShloMosaic.PureOps.Ideal
public import Idealize.ShloMosaic.Lib.SortFacts
public import Idealize.ShloMosaic.Lib.Pointwise

@[expose] public section

set_option maxRecDepth 16384

noncomputable section

namespace Cert.Knn

open Idealize.ShloMosaic Idealize.ShloMosaic.TcCoe Idealize.ShloMosaic.Tactic Cert.ReferenceIdeal

/-- Whether column `k` of row `r` is strictly greater than column `k'`, so that it goes before it. -/
def before (x : FVec Ideal S1024x100000 .f32) (r : Fin 1024) (k k' : Fin 100000) : Bool :=
  FloatOps.cmpfTotal .gt (x (ix2 r k)) (x (ix2 r k')) == 1#1

/-- The column of row `r` that a rank takes. -/
def ranked (x : FVec Ideal S1024x100000 .f32) (r : Fin 1024) : Fin 100000 → Fin 100000 := sortedFrom (before x r)

/-- Going before is being strictly greater. -/
theorem before_iff (x : FVec Ideal S1024x100000 .f32) (r : Fin 1024) (k k' : Fin 100000) :
    before x r k k' = true ↔ (x (ix2 r k') : EReal) < x (ix2 r k) := by
  unfold before
  show ((BitVec.ofBool (decide ((x (ix2 r k') : EReal) < x (ix2 r k)))) == 1#1) = true ↔ _
  by_cases h : (x (ix2 r k') : EReal) < x (ix2 r k) <;> simp [h]

/-- A later rank is never greater. -/
theorem ranked_le (x : FVec Ideal S1024x100000 .f32) (r : Fin 1024) {i j : Fin 100000} (h : i < j) :
    (x (ix2 r (ranked x r j)) : EReal) ≤ x (ix2 r (ranked x r i)) := by
  have hn : ∀ a b, before x r a b = false ↔ (x (ix2 r a) : EReal) ≤ x (ix2 r b) := fun a b => by
    rw [← not_lt, ← before_iff, Bool.not_eq_true]
  refine (hn _ _).mp (sortedFrom_noInversion (before x r) (before x r) (fun a b hab => ?_) (fun _ _ => id) (fun a b c hab hbc => ?_) i j h)
  · exact (hn b a).mpr ((before_iff x r a b).mp hab).le
  · exact (hn a c).mpr (((hn a b).mp hab).trans ((hn b c).mp hbc))

/-- Every column has a rank. -/
theorem ranked_surjective (x : FVec Ideal S1024x100000 .f32) (r : Fin 1024) : Function.Surjective (ranked x r) :=
  sortedFrom_surjective _

/-- Moving along a row. -/
theorem along_row (r : Fin 1024) (a k : Fin 100000) :
    Shape.Idx.along (s := S1024x100000) (ix2 r a) (1 : Fin 2) k = ix2 r k := by
  funext i
  match i with
  | ⟨0, _⟩ => rfl
  | ⟨1, _⟩ => rfl

/-- The ranking, read along the row of one of its entries. -/
theorem ranked_along (x : FVec Ideal S1024x100000 .f32) (r : Fin 1024) (a : Fin 100000) :
    (sortedFrom fun k k' : Fin 100000 =>
      FloatOps.cmpfTotal (F := Ideal) (φ := .f32) .gt (x (Shape.Idx.along (s := S1024x100000) (ix2 r a) (1 : Fin 2) k))
        (x (Shape.Idx.along (s := S1024x100000) (ix2 r a) (1 : Fin 2) k')) == 1#1) = ranked x r := by
  unfold ranked before
  congr 1
  funext k k'
  rw [along_row, along_row]

/-- A column's own number. -/
theorem column_at (r : Fin 1024) (n : Fin 100000) :
    iotaInDim S1024x100000 32 ⟨1, by decide⟩ (ix2 r n) = BitVec.ofNat 32 n.val := rfl

section TopK

variable (K : ℕ) (hK : K ≤ 100000) (x : FVec Ideal S1024x100000 .f32)
variable (h : S1024x100000.Slices (fun _ => 0) ⟨2, ![1024, K]⟩) (r : Fin 1024) (k : Fin K)

/-- A slice at the start of an array reads the same row and column. -/
theorem start_at {α : Type} (y : S1024x100000.Idx → α) :
    extractStridedSlice (⟨2, ![1024, K]⟩ : Shape) (fun _ => 0) y h (ix2 r k) = y (ix2 r (k.castLE hK)) := by
  unfold extractStridedSlice
  congr 1
  funext i
  apply Fin.ext
  match i with
  | ⟨0, _⟩ => exact Nat.zero_add _
  | ⟨1, _⟩ => exact Nat.zero_add _

/-- The value selected at a rank. -/
theorem topK_value :
    (Host.topK (⟨2, ![1024, K]⟩ : Shape) 1 (FloatOps.cmpfTotal (F := Ideal) (φ := .f32) .gt) x h).1 (ix2 r k)
      = x (ix2 r (ranked x r (k.castLE hK))) := by
  unfold Host.topK
  dsimp only
  rw [start_at K hK h r k]
  unfold Host.sort2
  rw [dif_pos (show 1 < S1024x100000.rank by decide)]
  dsimp only
  refine (congrArg x (along_row r _ _)).trans ?_
  exact congrArg (fun f : Fin 100000 → Fin 100000 => x (ix2 r (f (k.castLE hK)))) (ranked_along x r _)

/-- The column selected at a rank. -/
theorem topK_index :
    (Host.topK (⟨2, ![1024, K]⟩ : Shape) 1 (FloatOps.cmpfTotal (F := Ideal) (φ := .f32) .gt) x h).2 (ix2 r k)
      = BitVec.ofNat 32 (ranked x r (k.castLE hK)).val := by
  unfold Host.topK
  dsimp only
  rw [start_at K hK h r k]
  unfold Host.sort2
  rw [dif_pos (show 1 < S1024x100000.rank by decide)]
  dsimp only
  rw [dif_pos (show 1 < S1024x100000.rank by decide)]
  refine (congrArg (iotaInDim S1024x100000 32 ⟨1, by decide⟩) (along_row r _ _)).trans ((column_at r _).trans ?_)
  exact congrArg (fun f : Fin 100000 → Fin 100000 => BitVec.ofNat 32 (f (k.castLE hK)).val) (ranked_along x r _)

end TopK

end Cert.Knn

end
-- ==== Proof.Nearest.lean ====
/- The reference's distances, and what the precondition says of them: of each query's sixteen nearest points, in order, each
   is strictly nearer than the next and than every other point, is nearer than the large value, and shares its class modulo
   256 with at most four others. -/
module

public import proofs.«01_k».proof.Proof.Ranks
public import proofs.«01_k».proof.Proof.Gen.Pre_spread
public import proofs.«01_k».proof.Proof.Gen.ReferenceIdeal
public import Idealize.ShloMosaic.Lib.IndicatorCount
public import Idealize.ShloMosaic.Lib.Affine

@[expose] public section

set_option maxRecDepth 16384

noncomputable section

namespace Cert.Knn

open Idealize.ShloMosaic Idealize.ShloMosaic.TcCoe Idealize.ShloMosaic.Tactic Cert.ReferenceIdeal Cert.ReferenceIdeal.Gen
open Cert.ReferenceIdeal.Facts

variable (p : FVec Ideal S100000x128 .f32) (q : FVec Ideal S1024x128 .f32)

/-- The negated distances, as the reference ranks them. -/
def negV : FVec Ideal S1024x100000 .f32 :=
  Host.negf (subf
    (addf
      (broadcastInDim S1024x100000 ![0, 1] bcast_S1024x1_S1024x100000_0_1
        (broadcastInDim S1024x1 ![0] bcast_S1024_S1024x1_0
          (Host.reduceAdd (mulf q q) (constant S_ .f32 0x00000000#32) reducesTo_S1024x128_S1024_d1 h_S_)))
      (broadcastInDim S1024x100000 ![0, 1] bcast_S1x100000_S1024x100000_0_1
        (broadcastInDim S1x100000 ![1] bcast_S100000_S1x100000_1
          (Host.reduceAdd (mulf p p) (constant S_ .f32 0x00000000#32) reducesTo_S100000x128_S100000_d1 h_S_))))
    (mulf (broadcastInDim S1024x100000 ![] bcast_S_S1024x100000 (constant S_ .f32 0x40000000#32))
      (Host.dotGeneral dot_S1024x128_S128x100000_S1024x100000_1_0_0_1_n_n none q
        (transpose S128x100000 [1, 0] p transposes_S100000x128_S128x100000_1_0))))

/-- The squared distance of query `r` and point `n`. -/
def near (r : Fin 1024) (n : Fin 100000) : EReal :=
  (∑ d : Fin 128, q (ix2 r d) * q (ix2 r d)) + (∑ d : Fin 128, p (ix2 n d) * p (ix2 n d))
    - Ideal.ofBits .f32 0x40000000#32 * ∑ d : Fin 128, q (ix2 r d) * p (ix2 n d)

/-- A negated distance. -/
theorem negV_at (r : Fin 1024) (n : Fin 100000) : (negV p q (ix2 r n) : EReal) = -near p q r n := by
  unfold negV near
  pointwise

/-- The point at a rank of query `r`. -/
def nth (r : Fin 1024) (k : ℕ) : Fin 100000 := if h : k < 100000 then ranked (negV p q) r ⟨k, h⟩ else 0

/-- What the precondition says at one entry, before it is read. -/
theorem pre_entry (hp : Cert.Pre_spread.fn (F := Ideal) p q = fun _ => 1#1) (r : Fin 1024) (k : Fin 16) :
    Cert.Pre_spread.fn_part1 (F := Ideal)
      (Host.topK (⟨2, ![1024, 17]⟩ : Shape) 1 (FloatOps.cmpfTotal (F := Ideal) (φ := .f32) .gt) (negV p q)
        Cert.Pre_spread.Facts.sliceFits_S1024x100000_S1024x17).2
      (cmpf .ogt
        (extractStridedSlice Cert.Pre_spread.S1024x16 ![0, 0]
          (Host.topK (⟨2, ![1024, 17]⟩ : Shape) 1 (FloatOps.cmpfTotal (F := Ideal) (φ := .f32) .gt) (negV p q)
            Cert.Pre_spread.Facts.sliceFits_S1024x100000_S1024x17).1 Cert.Pre_spread.Facts.slices_S1024x17_S1024x16_0_0)
        (extractStridedSlice Cert.Pre_spread.S1024x16 ![0, 1]
          (Host.topK (⟨2, ![1024, 17]⟩ : Shape) 1 (FloatOps.cmpfTotal (F := Ideal) (φ := .f32) .gt) (negV p q)
            Cert.Pre_spread.Facts.sliceFits_S1024x100000_S1024x17).1 Cert.Pre_spread.Facts.slices_S1024x17_S1024x16_0_1))
      (extractStridedSlice Cert.Pre_spread.S1024x16 ![0, 0]
        (Host.topK (⟨2, ![1024, 17]⟩ : Shape) 1 (FloatOps.cmpfTotal (F := Ideal) (φ := .f32) .gt) (negV p q)
          Cert.Pre_spread.Facts.sliceFits_S1024x100000_S1024x17).1 Cert.Pre_spread.Facts.slices_S1024x17_S1024x16_0_0)
      (ix2 r k) = 1#1 :=
  congrFun hp (ix2 r k)

/-- A decision that is the word one holds. -/
theorem of_word {a : Prop} [Decidable a] (h : BitVec.ofBool (decide a) = 1#1) : a := by
  by_cases ha : a
  · exact ha
  · rw [decide_eq_false ha] at h
    exact absurd h (by decide)

/-- The class of an index, as the precondition computes it. -/
def cls (i : BitVec 32) : BitVec 32 := IntOp.remsi .host i 256#32

/-- The precondition's last part at one entry. -/
theorem part_entry (I : IVec Cert.Pre_spread.S1024x17 32) (V : IVec Cert.Pre_spread.S1024x16 1)
    (W : FVec Ideal Cert.Pre_spread.S1024x16 .f32) (r : Fin 1024) (k : Fin 16)
    (h : Cert.Pre_spread.fn_part1 (F := Ideal) I V W (ix2 r k) = 1#1) :
    V (ix2 r k) = 1#1 ∧ Ideal.ofBits .f32 0xF149F2CA#32 < (W (ix2 r k) : EReal)
      ∧ (Finset.univ.fold IntOp.addi 0#32 fun j : Fin 16 =>
          (IntOp.cmpi .eq (cls (I (ix2 r (k.castLE (by omega))))) (cls (I (ix2 r (j.castLE (by omega)))))).setWidth 32).toInt ≤ 5 := by
  unfold Cert.Pre_spread.fn_part1 at h
  pointwise at h
  obtain ⟨h1, h2⟩ := IntOp.andi_eq_one.mp h
  obtain ⟨h3, h4⟩ := IntOp.andi_eq_one.mp h1
  have h5 := IntOp.cmpi_sle.mp h2
  refine ⟨h3, of_word h4, ?_⟩
  rw [show (5#32 : BitVec 32).toInt = 5 by decide] at h5
  exact h5

/-- The large value. -/
def large : EReal := Ideal.ofBits .f32 0x7149F2CA#32

/-- The precondition's bound is the large value negated. -/
theorem neg_large : Ideal.ofBits .f32 0xF149F2CA#32 = -large := by
  unfold large
  rw [show Ideal.ofBits .f32 0xF149F2CA#32 = ((-(13234890 * 2 ^ 76) : ℝ) : EReal) by
      simp [Ideal.ofBits, Ideal.ieee, -EReal.coe_mul, -EReal.coe_neg],
    show Ideal.ofBits .f32 0x7149F2CA#32 = ((13234890 * 2 ^ 76 : ℝ) : EReal) by
      simp [Ideal.ofBits, Ideal.ieee, -EReal.coe_mul, -EReal.coe_neg]]
  exact EReal.coe_neg _

/-- The value the precondition's selection has at a rank. -/
theorem top_value (r : Fin 1024) (k : Fin 17) :
    ((Host.topK (⟨2, ![1024, 17]⟩ : Shape) 1 (FloatOps.cmpfTotal (F := Ideal) (φ := .f32) .gt) (negV p q)
      Cert.Pre_spread.Facts.sliceFits_S1024x100000_S1024x17).1 (ix2 r k) : EReal) = -near p q r (nth p q r k.val) := by
  have hk : k.val < 100000 := by omega
  refine (topK_value 17 (by omega) _ _ r k).trans ?_
  unfold nth
  rw [dif_pos hk]
  exact negV_at p q r _

/-- The index the precondition's selection has at a rank. -/
theorem top_index (r : Fin 1024) (k : Fin 17) :
    (Host.topK (⟨2, ![1024, 17]⟩ : Shape) 1 (FloatOps.cmpfTotal (F := Ideal) (φ := .f32) .gt) (negV p q)
      Cert.Pre_spread.Facts.sliceFits_S1024x100000_S1024x17).2 (ix2 r k) = BitVec.ofNat 32 (nth p q r k.val).val := by
  have hk : k.val < 100000 := by omega
  refine (topK_index 17 (by omega) _ _ r k).trans ?_
  unfold nth
  rw [dif_pos hk]
  rfl

/-- The class of a point's index. -/
theorem cls_at (n : Fin 100000) : cls (BitVec.ofNat 32 n.val) = BitVec.ofNat 32 (n.val % 256) := by
  have hn := n.isLt
  apply BitVec.eq_of_toNat_eq
  have hv : (BitVec.ofNat 32 n.val).toNat = n.val := by rw [BitVec.toNat_ofNat]; omega
  refine (IntOp.toNat_remsi .host (x := BitVec.ofNat 32 n.val) (by omega) 256 (by omega) (by omega)).trans ?_
  rw [hv, BitVec.toNat_ofNat]
  omega

/-- Two points' classes agree as words just when they agree. -/
theorem cls_eq (n n' : Fin 100000) :
    IntOp.cmpi .eq (cls (BitVec.ofNat 32 n.val)) (cls (BitVec.ofNat 32 n'.val)) = 1#1 ↔ n.val % 256 = n'.val % 256 := by
  rw [cls_at, cls_at, IntOp.cmpi_eq]
  constructor
  · intro h
    have h' := congrArg BitVec.toNat h
    rw [BitVec.toNat_ofNat, BitVec.toNat_ofNat] at h'
    omega
  · intro h
    rw [h]

/-- What the precondition says of the point at a rank. -/
theorem rank_facts (hp : Cert.Pre_spread.fn (F := Ideal) p q = fun _ => 1#1) (r : Fin 1024) (k : Fin 16) :
    near p q r (nth p q r k.val) < near p q r (nth p q r (k.val + 1)) ∧ near p q r (nth p q r k.val) < large
      ∧ (Finset.univ.filter fun j : Fin 16 => (nth p q r k.val).val % 256 = (nth p q r j.val).val % 256).card ≤ 5 := by
  obtain ⟨h1, h2, h3⟩ := part_entry _ _ _ r k (pre_entry p q hp r k)
  simp only [top_index, Fin.val_castLE] at h3
  have hs : ∀ (o : ℕ) (ho : o + 16 ≤ 17) (y : (⟨2, ![1024, 17]⟩ : Shape).Idx → Ideal .f32) (h : Cert.Pre_spread.S1024x17.Slices ![0, o] Cert.Pre_spread.S1024x16),
      extractStridedSlice Cert.Pre_spread.S1024x16 ![0, o] y h (ix2 r k) = y (ix2 r ⟨o + k.val, by omega⟩) := fun o ho y h => by
    unfold extractStridedSlice
    congr 1
    funext i
    apply Fin.ext
    match i with
    | ⟨0, _⟩ => exact Nat.zero_add _
    | ⟨1, _⟩ => rfl
  rw [hs 0 (by omega), top_value, neg_large] at h2
  refine ⟨?_, ?_, ?_⟩
  · unfold cmpf at h1
    rw [hs 0 (by omega), hs 1 (by omega), top_value, top_value] at h1
    have h4 : (BitVec.ofBool (decide (-near p q r (nth p q r (1 + k.val)) < -near p q r (nth p q r (0 + k.val))))) = 1#1 := h1
    have h5 := EReal.neg_lt_neg_iff.mp (of_word h4)
    rwa [Nat.zero_add, Nat.add_comm 1] at h5
  · simp only [Nat.zero_add] at h2
    exact EReal.neg_lt_neg_iff.mp h2
  · rw [IndicatorCount.fold_addi_setWidth_eq_card] at h3
    simp only [cls_eq] at h3
    have hc : (Finset.univ.filter fun j : Fin 16 => (nth p q r k.val).val % 256 = (nth p q r j.val).val % 256).card ≤ 16 :=
      (Finset.card_filter_le _ _).trans (by simp)
    rw [BitVec.toInt_eq_toNat_of_lt (by rw [BitVec.toNat_ofNat]; omega), BitVec.toNat_ofNat] at h3
    omega

/-- Each of the nearest is strictly nearer than every later rank. -/
theorem nth_lt (hp : Cert.Pre_spread.fn (F := Ideal) p q = fun _ => 1#1) (r : Fin 1024) (j k : ℕ) (hjk : j < k) (hj : j < 16)
    (hk : k < 100000) : near p q r (nth p q r j) < near p q r (nth p q r k) := by
  refine (rank_facts p q hp r ⟨j, hj⟩).1.trans_le ?_
  show near p q r (nth p q r (j + 1)) ≤ _
  rcases Nat.eq_or_lt_of_le (Nat.succ_le_of_lt hjk) with h | h
  · rw [show j + 1 = k from h]
  · have h1 := ranked_le (negV p q) r (i := ⟨j + 1, by omega⟩) (j := ⟨k, hk⟩) h
    rw [negV_at, negV_at, EReal.neg_le_neg_iff] at h1
    unfold nth
    rw [dif_pos (by omega : j + 1 < 100000), dif_pos hk]
    exact h1

/-- Every other point is strictly farther than the sixteen nearest. -/
theorem others (hp : Cert.Pre_spread.fn (F := Ideal) p q = fun _ => 1#1) (r : Fin 1024) (n : Fin 100000) :
    (∃ k < 16, n = nth p q r k) ∨ ∀ k < 16, near p q r (nth p q r k) < near p q r n := by
  obtain ⟨j, rfl⟩ := ranked_surjective (negV p q) r n
  have hj : ranked (negV p q) r j = nth p q r j.val := by unfold nth; rw [dif_pos j.isLt]
  rw [hj]
  by_cases h : j.val < 16
  · exact .inl ⟨j.val, h, rfl⟩
  · exact .inr fun k hk => nth_lt p q hp r k j.val (by omega) hk j.isLt

end Cert.Knn

end
-- ==== Proof.Answer.lean ====
/- Under the precondition, the kernel's results are the reference's: the kernel's distances are the reference's, the padded
   points are farther than the sixteen nearest, and so the kernel selects the reference's sixteen nearest in order. -/
module

public import proofs.«01_k».proof.Proof.Fold
public import proofs.«01_k».proof.Proof.Nearest

@[expose] public section

set_option maxRecDepth 16384

noncomputable section

namespace Cert.KernelIdeal.Knn

open Idealize.ShloMosaic Idealize.ShloMosaic.TcCoe Idealize.ShloMosaic.Tactic
open Cert.KernelIdeal Cert.KernelIdeal.Gen Cert.KernelIdeal.Value Cert.Knn

section Distances

variable (p : FVec Ideal S100000x128 .f32) (q : FVec Ideal S1024x128 .f32) (r : Fin 1024)

/-- On the points themselves the kernel's distance is the reference's. -/
theorem far_near (n : Fin 100000) : far p q r n.val = near p q r n := by
  have hn := n.isLt
  unfold far near lenQ
  rw [dif_pos (show n.val < 100352 by omega), sqV_at]
  simp only [padV_at]
  simp only [dif_pos hn]

/-- A square is not negative. -/
theorem square_nonneg (x : EReal) : 0 ≤ x * x := by
  rcases le_total 0 x with h | h
  · exact mul_nonneg h h
  · rw [show x * x = -x * -x by rw [neg_mul, mul_neg, neg_neg]]
    exact mul_nonneg (EReal.neg_nonneg.mpr h) (EReal.neg_nonneg.mpr h)

/-- A padded point is at least the large value away. -/
theorem far_pad (n : ℕ) (h : 100000 ≤ n) (h' : n < 100352) : large ≤ far p q r n := by
  unfold far
  rw [dif_pos h', sqV_at]
  simp only [padV_at]
  simp only [dif_neg (Nat.not_lt.mpr h), mul_zero, Finset.sum_const_zero, sub_zero]
  exact le_add_of_nonneg_left (Finset.sum_nonneg fun d _ => square_nonneg _)

end Distances

variable (p : FVec Ideal S100000x128 .f32) (q : FVec Ideal S1024x128 .f32)

/-- Slots that have seen every point select the reference's nearest. -/
theorem selected (hp : Cert.Pre_spread.fn (F := Ideal) p q = fun _ => 1#1) (l : List (Slot Ideal)) (r : Fin 1024)
    (h : Held (far p q r) l r 49) (k : Fin 16) :
    outDistV l (ix2 r k) = near p q r (nth p q r k.val) ∧ outIdxV l (ix2 r k) = BitVec.ofNat 32 (nth p q r k.val).val := by
  have hx : ∀ j k, j < k → k < 16 → far p q r (nth p q r j).val < far p q r (nth p q r k).val := fun j k hjk hk => by
    rw [far_near, far_near]
    exact nth_lt p q hp r j k hjk (by omega) (by omega)
  have hb : ∀ k < 16, far p q r (nth p q r k).val < big := fun k hk => by
    rw [far_near]
    exact (rank_facts p q hp r ⟨k, hk⟩).2.1
  have ho : ∀ n < 100352, (∃ k < 16, n = (nth p q r k).val) ∨ ∀ k < 16, far p q r (nth p q r k).val < far p q r n := fun n hn => by
    by_cases h0 : n < 100000
    · rcases others p q hp r ⟨n, h0⟩ with ⟨k, hk, he⟩ | ho
      · exact .inl ⟨k, hk, congrArg Fin.val he⟩
      · refine .inr fun k hk => ?_
        rw [far_near, show far p q r n = _ from far_near p q r ⟨n, h0⟩]
        exact ho k hk
    · exact .inr fun k hk => (hb k hk).trans_le (far_pad p q r n (Nat.not_lt.mp h0) hn)
  have hc : ∀ b, ((Finset.range 16).filter fun k => (nth p q r k).val % 256 = b).card ≤ 5 := fun b => by
    rcases ((Finset.range 16).filter fun k => (nth p q r k).val % 256 = b).eq_empty_or_nonempty with he | ⟨i, hi⟩
    · rw [he]; simp
    · obtain ⟨hi, hib⟩ := Finset.mem_filter.mp hi
      refine le_trans ?_ (rank_facts p q hp r ⟨i, Finset.mem_range.mp hi⟩).2.2
      refine Finset.card_le_card_of_surjOn Fin.val fun j hj => ?_
      obtain ⟨hj, hjb⟩ := Finset.mem_filter.mp hj
      exact ⟨⟨j, Finset.mem_range.mp hj⟩, by simp [hib, hjb], rfl⟩
  have ht : ∀ j k, j < k → k < 16 → BitVec.ofNat 32 (nth p q r j).val ≠ BitVec.ofNat 32 (nth p q r k).val := fun j k hjk hk he => by
    have h1 := congrArg BitVec.toNat he
    have h2 := (nth p q r j).isLt
    have h3 := (nth p q r k).isLt
    rw [BitVec.toNat_ofNat, BitVec.toNat_ofNat] at h1
    have h4 := hx j k hjk hk
    rw [show (nth p q r j).val = (nth p q r k).val by omega] at h4
    exact lt_irrefl _ h4
  have hl : l ≠ [] := fun he => by
    have := held_length h
    rw [he] at this
    exact absurd this (by decide)
  have := outV_at l r (held_ready h (fun k => (nth p q r k).val) (fun k _ => (nth p q r k).isLt) hx hb ho hc) hx hb ht hl k
  rw [far_near] at this
  exact this

/-- The reference's distances. -/
def refDist : FVec Ideal S1024x16 .f32 :=
  Host.negf (Host.topK Cert.ReferenceIdeal.S1024x16 1 (FloatOps.cmpfTotal (F := Ideal) (φ := .f32) .gt) (negV p q)
    Cert.ReferenceIdeal.Facts₀.sliceFits_S1024x100000_S1024x16).1

/-- The reference's indices. -/
def refIdx : IVec S1024x16 32 :=
  (Host.topK Cert.ReferenceIdeal.S1024x16 1 (FloatOps.cmpfTotal (F := Ideal) (φ := .f32) .gt) (negV p q)
    Cert.ReferenceIdeal.Facts₀.sliceFits_S1024x100000_S1024x16).2

/-- A distance of the reference. -/
theorem refDist_at (r : Fin 1024) (k : Fin 16) : (refDist p q (ix2 r k) : EReal) = near p q r (nth p q r k.val) := by
  have hk : k.val < 100000 := by omega
  refine (congrArg (fun x : EReal => -x) ((topK_value 16 (by omega) _ _ r k).trans (negV_at p q r _))).trans ?_
  rw [neg_neg]
  unfold nth
  rw [dif_pos hk]
  rfl

/-- An index of the reference. -/
theorem refIdx_at (r : Fin 1024) (k : Fin 16) : refIdx p q (ix2 r k) = BitVec.ofNat 32 (nth p q r k.val).val := by
  have hk : k.val < 100000 := by omega
  refine (topK_index 16 (by omega) _ _ r k).trans ?_
  unfold nth
  rw [dif_pos hk]
  rfl

/-- The kernel's two results are the reference's. -/
theorem answer (m : (ℓ : Loc nD τ sig) → Buf (Elt Ideal) ℓ) (c : Dev nD)
    (hp : Cert.Pre_spread.fn (F := Ideal) (m ((c : Thread nD τ).loc main_arg0)) (m ((c : Thread nD τ).loc main_arg1)) = fun _ => 1#1) :
    G3 m c = refDist (m ((c : Thread nD τ).loc main_arg0)) (m ((c : Thread nD τ).loc main_arg1))
      ∧ G4 m c = refIdx (m ((c : Thread nD τ).loc main_arg0)) (m ((c : Thread nD τ).loc main_arg1)) := by
  obtain ⟨l, hl, h3, h4⟩ := results m c
  rw [h3, h4]
  refine ⟨funext fun j => ?_, funext fun j => ?_⟩
  · rw [eq_ix2 j]
    exact (selected _ _ hp l (j 0) (hl _) (j 1)).1.trans (refDist_at _ _ _ _).symm
  · rw [eq_ix2 j]
    exact (selected _ _ hp l (j 0) (hl _) (j 1)).2.trans (refIdx_at _ _ _ _).symm

end Cert.KernelIdeal.Knn

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_spread
public import proofs.«01_k».proof.Proof.Gen.KernelIdeal.Value
public import proofs.«01_k».proof.Proof.Gen.ReferenceIdeal.Run
public import proofs.«01_k».proof.Proof.Answer
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The reference runs and leaves its arguments as they were. -/
theorem reference_frame (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩
      (fun r => (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
        ∧ r.2.sem = fun _ => 0) :=
  (θ_run Cert.ReferenceIdeal.defs _ _).mono
    (fun r h => ⟨fun c => (h c).2.2, Idealize.ShloMosaic.sem_eq_zero_of_no_sems (by decide) r.2⟩)
    (Cert.ReferenceIdeal.Value.run (F := Ideal) m ρ)

/-- Under the precondition the kernel and the reference end with equal distances and equal indices. -/
theorem equal_results : Cert.algebraic_KernelIdeal_ReferenceIdeal_pre_spread := by
  intro m ρ m' ρ' hpre hagree
  refine ⟨fun c => Cert.KernelIdeal.Value.G3 m c, fun c => Cert.KernelIdeal.Value.G4 m c, ?_, ?_⟩
  · exact Cert.KernelIdeal.Value.run (F := Ideal) m ρ
  · refine (θ_run Cert.ReferenceIdeal.defs _ _).mono (fun _ h c => ⟨(h c).1.trans ?_, (h c).2.1.trans ?_, (h c).2.2⟩)
      (Cert.ReferenceIdeal.Value.run (F := Ideal) m' ρ')
    · rw [(hagree c).1, (hagree c).2]
      exact (Cert.KernelIdeal.Knn.answer m c (hpre c)).1.symm
    · rw [(hagree c).1, (hagree c).2]
      exact (Cert.KernelIdeal.Knn.answer m c (hpre c)).2.symm

/-- Every claim of this certificate. -/
theorem claim : Cert.Claim := ⟨Cert.Kernel.Gen.facts, Cert.KernelIdeal.Gen.facts, Cert.ReferenceIdeal.Gen.facts, Cert.Pre_spread.Gen.facts,
  fun m ρ _ => Cert.Kernel.Gen.frame m ρ,
  fun m ρ _ => Cert.KernelIdeal.Gen.frame m ρ,
  fun m ρ _ => Cert.KernelIdeal.Gen.frame m ρ,
  fun m ρ _ => reference_frame m ρ,
  fun m ρ _ => reference_frame m ρ,
  trivial,
  equal_results⟩

end Cert.Proof

end
